-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_finite [hPre_x_finite : Cert.Pre_x_finite.Facts] (m : (ℓ : Loc Cert.KernelIdeal.nD Cert.KernelIdeal.τ Cert.KernelIdeal.sig) → Buf (Elt Ideal) ℓ) : Prop :=
  ∀ c : Dev Cert.KernelIdeal.nD,
    (Cert.Pre_x_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_finite [hPre_x_finite : Cert.Pre_x_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_x_finite [hKernelIdeal : Cert.KernelIdeal.Facts] [hPre_x_finite : Cert.Pre_x_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_x_finite [hReferenceIdeal : Cert.ReferenceIdeal.Facts] [hPre_x_finite : Cert.Pre_x_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_x_finite [hKernelIdeal : Cert.KernelIdeal.Facts] [hReferenceIdeal : Cert.ReferenceIdeal.Facts] [hPre_x_finite : Cert.Pre_x_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_v5) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_v16) = v2 c
          ∧ r.2.mem ((c.tc : Thread Cert.ReferenceIdeal.nD Cert.ReferenceIdeal.τ).loc Cert.ReferenceIdeal.main_v30) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def algebraic_KernelIdeal_ReferenceIdeal_on_where_x_finite [hKernelIdeal : Cert.KernelIdeal.Facts] [hReferenceIdeal : Cert.ReferenceIdeal.Facts] [hOn_where_x_finite : Cert.On_where_x_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨4, ![8, 256, 32, 32]⟩ : Shape).Idx, (Cert.On_where_x_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.KernelIdeal.nD Cert.KernelIdeal.τ).loc Cert.KernelIdeal.main_v2) i = v0 c i)
          ∧ (∀ i : (⟨4, ![8, 256, 32, 32]⟩ : Shape).Idx, (Cert.On_where_x_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 i = 1#1 → r.2.mem ((c.tc : Thread Cert.KernelIdeal.nD Cert.KernelIdeal.τ).loc Cert.KernelIdeal.main_v3) i = v1 c i)
          ∧ (∀ i : (⟨1, ![8192]⟩ : Shape).Idx, (Cert.On_where_x_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 i = 1#1 → r.2.mem ((c.tc : Thread Cert.KernelIdeal.nD Cert.KernelIdeal.τ).loc Cert.KernelIdeal.main_v4) i = v2 c i)
          ∧ (∀ i : (⟨0, ![]⟩ : Shape).Idx, (Cert.On_where_x_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2 i = 1#1 → r.2.mem ((c.tc : Thread Cert.KernelIdeal.nD Cert.KernelIdeal.τ).loc Cert.KernelIdeal.main_v5) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![8, 256, 32, 32]⟩ : Shape).Idx, (Cert.On_where_x_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.ReferenceIdeal.nD Cert.ReferenceIdeal.τ).loc Cert.ReferenceIdeal.main_v33) i = v0 c i)
          ∧ (∀ i : (⟨4, ![8, 256, 32, 32]⟩ : Shape).Idx, (Cert.On_where_x_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 i = 1#1 → r.2.mem ((c.tc : Thread Cert.ReferenceIdeal.nD Cert.ReferenceIdeal.τ).loc Cert.ReferenceIdeal.main_v20) i = v1 c i)
          ∧ (∀ i : (⟨1, ![8192]⟩ : Shape).Idx, (Cert.On_where_x_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 i = 1#1 → r.2.mem ((c.tc : Thread Cert.ReferenceIdeal.nD Cert.ReferenceIdeal.τ).loc Cert.ReferenceIdeal.main_v16) i = v2 c i)
          ∧ (∀ i : (⟨0, ![]⟩ : Shape).Idx, (Cert.On_where_x_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2 i = 1#1 → r.2.mem ((c.tc : Thread Cert.ReferenceIdeal.nD Cert.ReferenceIdeal.τ).loc Cert.ReferenceIdeal.main_v30) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_x_finite : Cert.Pre_x_finite.Facts) (hOn_where_x_finite : Cert.On_where_x_finite.Facts),
    quiescent_Kernel (hKernel := hKernel)
    ∧ quiescent_KernelIdeal (hKernelIdeal := hKernelIdeal)
    ∧ quiescent_KernelIdeal_pre_x_finite (hKernelIdeal := hKernelIdeal) (hPre_x_finite := hPre_x_finite)
    ∧ quiescent_ReferenceIdeal (hReferenceIdeal := hReferenceIdeal)
    ∧ quiescent_ReferenceIdeal_pre_x_finite (hReferenceIdeal := hReferenceIdeal) (hPre_x_finite := hPre_x_finite)
    ∧ preserves_Kernel_KernelIdeal
    ∧ algebraic_KernelIdeal_ReferenceIdeal_pre_x_finite (hKernelIdeal := hKernelIdeal) (hReferenceIdeal := hReferenceIdeal) (hPre_x_finite := hPre_x_finite)
    ∧ algebraic_KernelIdeal_ReferenceIdeal_on_where_x_finite (hKernelIdeal := hKernelIdeal) (hReferenceIdeal := hReferenceIdeal) (hOn_where_x_finite := hOn_where_x_finite)
-- ==== On_where_x_finite.lean ====
abbrev S8x256x32x32 : Shape := ⟨4, ![8, 256, 32, 32]⟩
abbrev S1024x256 : Shape := ⟨2, ![1024, 256]⟩
abbrev S256x256 : Shape := ⟨2, ![256, 256]⟩
abbrev S_ : Shape := ⟨0, ![]⟩
abbrev S8192 : Shape := ⟨1, ![8192]⟩

class Facts : Prop where
  bcast_S_S8x256x32x32 : S_.BroadcastsInDim S8x256x32x32 (![] : Fin 0 → Fin S8x256x32x32.rank)
  bcast_S_S8192 : S_.BroadcastsInDim S8192 (![] : Fin 0 → Fin S8192.rank)

variable [Facts]

def fn {F : FTy → Type} [FloatOps F] (main_arg0 : FVec F S8x256x32x32 .f32) (main_arg1 : FVec F S1024x256 .f32) (main_arg2 : FVec F S256x256 .f32) : IVec S8x256x32x32 1 × IVec S8x256x32x32 1 × IVec S8192 1 × IVec S_ 1 :=
  let main_v0 : FVec F S8x256x32x32 .f32 := Host.absf main_arg0
  let main_cst : FVec F S_ .f32 := constant S_ .f32 0x7F800000#32
  let main_v1 : FVec F S8x256x32x32 .f32 := broadcastInDim S8x256x32x32 ![] bcast_S_S8x256x32x32 main_cst
  let main_v2 : IVec S8x256x32x32 1 := cmpf .olt main_v0 main_v1
  let main_c : IVec S_ 1 := constantI S_ 1 1#1
  let main_v3 : IVec S8x256x32x32 1 := broadcastInDim S8x256x32x32 ![] bcast_S_S8x256x32x32 main_c
  let main_c_0 : IVec S_ 1 := constantI S_ 1 1#1
  let main_v4 : IVec S8192 1 := broadcastInDim S8192 ![] bcast_S_S8192 main_c_0
  let main_c_1 : IVec S_ 1 := constantI S_ 1 1#1
  (main_v2, main_v3, main_v4, main_c_1)
-- ==== Pre_x_finite.lean ====
abbrev S8x256x32x32 : Shape := ⟨4, ![8, 256, 32, 32]⟩
abbrev S1024x256 : Shape := ⟨2, ![1024, 256]⟩
abbrev S256x256 : Shape := ⟨2, ![256, 256]⟩
abbrev S_ : Shape := ⟨0, ![]⟩

class Facts : Prop where
  bcast_S_S8x256x32x32 : S_.BroadcastsInDim S8x256x32x32 (![] : Fin 0 → Fin S8x256x32x32.rank)

variable [Facts]

def fn {F : FTy → Type} [FloatOps F] (main_arg0 : FVec F S8x256x32x32 .f32) (main_arg1 : FVec F S1024x256 .f32) (main_arg2 : FVec F S256x256 .f32) : IVec S8x256x32x32 1 :=
  let main_v0 : FVec F S8x256x32x32 .f32 := Host.absf main_arg0
  let main_cst : FVec F S_ .f32 := constant S_ .f32 0x7F800000#32
  let main_v1 : FVec F S8x256x32x32 .f32 := broadcastInDim S8x256x32x32 ![] bcast_S_S8x256x32x32 main_cst
  let main_v2 : IVec S8x256x32x32 1 := cmpf .olt main_v0 main_v1
  main_v2
-- ==== Kernel.lean ====
abbrev S8x256x32x32 : Shape := ⟨4, ![8, 256, 32, 32]⟩
abbrev S1024x256 : Shape := ⟨2, ![1024, 256]⟩
abbrev S256x256 : Shape := ⟨2, ![256, 256]⟩
abbrev S8x256x1024 : Shape := ⟨3, ![8, 256, 1024]⟩
abbrev S8x1x1024 : Shape := ⟨3, ![8, 1, 1024]⟩
abbrev S1x1 : Shape := ⟨2, ![1, 1]⟩
abbrev S1x256x1024 : Shape := ⟨3, ![1, 256, 1024]⟩
abbrev S1x1x1024 : Shape := ⟨3, ![1, 1, 1024]⟩
abbrev S256x1024 : Shape := ⟨2, ![256, 1024]⟩
abbrev S1024x1 : Shape := ⟨2, ![1024, 1]⟩
abbrev S1 : Shape := ⟨1, ![1]⟩
abbrev S1024 : Shape := ⟨1, ![1024]⟩
abbrev S1024x1024 : Shape := ⟨2, ![1024, 1024]⟩
abbrev S1x1024 : Shape := ⟨2, ![1, 1024]⟩
abbrev S1x1x1 : Shape := ⟨3, ![1, 1, 1]⟩
abbrev S8192 : Shape := ⟨1, ![8192]⟩
abbrev S_ : Shape := ⟨0, ![]⟩

abbrev nBuf : Space → Nat
  | .hbm => 12
  | .vmem => 13
  | .smem => 2
  | _ => 0

abbrev bufTy : (tb : Table) → Fin (tcTables nBuf tb) → BufTy
  | .hbm, ⟨0, _⟩ => ⟨S8x256x32x32, .f32⟩
  | .hbm, ⟨1, _⟩ => ⟨S1024x256, .f32⟩
  | .hbm, ⟨2, _⟩ => ⟨S256x256, .f32⟩
  | .hbm, ⟨3, _⟩ => ⟨S8x256x1024, .f32⟩
  | .hbm, ⟨4, _⟩ => ⟨S8x256x1024, .f32⟩
  | .hbm, ⟨5, _⟩ => ⟨S8x256x1024, .f32⟩
  | .hbm, ⟨6, _⟩ => ⟨S8x1x1024, .i32⟩
  | .hbm, ⟨7, _⟩ => ⟨S1x1, .f32⟩
  | .hbm, ⟨8, _⟩ => ⟨S8x256x32x32, .f32⟩
  | .hbm, ⟨9, _⟩ => ⟨S8x256x32x32, .f32⟩
  | .hbm, ⟨10, _⟩ => ⟨S8192, .i32⟩
  | .hbm, ⟨11, _⟩ => ⟨S_, .f32⟩
  | .local _ .vmem, ⟨0, _⟩ => ⟨S1x256x1024, .f32⟩
  | .local _ .vmem, ⟨1, _⟩ => ⟨S1x256x1024, .f32⟩
  | .local _ .vmem, ⟨2, _⟩ => ⟨S1024x256, .f32⟩
  | .local _ .vmem, ⟨3, _⟩ => ⟨S256x256, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x1x1024, .i32⟩
  | .local _ .vmem, ⟨9, _⟩ => ⟨S1x1x1024, .i32⟩
  | .local _ .vmem, ⟨10, _⟩ => ⟨S256x1024, .bf16⟩
  | .local _ .vmem, ⟨11, _⟩ => ⟨S1024x256, .f32⟩
  | .local _ .vmem, ⟨12, _⟩ => ⟨S1024x1, .f32⟩
  | .local _ .smem, ⟨0, _⟩ => ⟨S1x1, .f32⟩
  | .local _ .smem, ⟨1, _⟩ => ⟨S1, .f32⟩
  | _, _ => ⟨S8x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_stg6_0 : Ref sig .tc := ⟨.smem, 0, rfl⟩
abbrev cc0_scratch3 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v52 : BitVec 1 := Scalar.cmpi .eq arg0 c7_i32
  let v53 : BitVec 32 := Scalar.extui v52
  let c0_i32_27 : BitVec 32 := 0#32
  let v54 : BitVec 1 := Scalar.cmpi .ne v53 c0_i32_27
  v54

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .smem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S8x256x32x32 : Shape := ⟨4, ![8, 256, 32, 32]⟩
abbrev S1024x256 : Shape := ⟨2, ![1024, 256]⟩
abbrev S256x256 : Shape := ⟨2, ![256, 256]⟩
abbrev S8x32x32x256 : Shape := ⟨4, ![8, 32, 32, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x1024 : Shape := ⟨2, ![1, 1024]⟩
abbrev S8192x1024 : Shape := ⟨2, ![8192, 1024]⟩
abbrev S256x1024 : Shape := ⟨2, ![256, 1024]⟩
abbrev S1 : Shape := ⟨1, ![1]⟩
abbrev S1x1 : Shape := ⟨2, ![1, 1]⟩

abbrev nBuf : Space → Nat
  | .hbm => 71
  | .vmem => 0
  | .smem => 0
  | _ => 0

abbrev bufTy : (tb : Table) → Fin (tcTables nBuf tb) → BufTy
  | .hbm, ⟨0, _⟩ => ⟨S8x256x32x32, .f32⟩
  | .hbm, ⟨1, _⟩ => ⟨S1024x256, .f32⟩
  | .hbm, ⟨2, _⟩ => ⟨S256x256, .f32⟩
  | .hbm, ⟨3, _⟩ => ⟨S8x32x32x256, .f32⟩
  | .hbm, ⟨4, _⟩ => ⟨S8192x256, .f32⟩
  | .hbm, ⟨5, _⟩ => ⟨S8192x256, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S1024x256, .f32⟩
  | .hbm, ⟨10, _⟩ => ⟨S_, .f32⟩
  | .hbm, ⟨11, _⟩ => ⟨S1024, .f32⟩
  | .hbm, ⟨12, _⟩ => ⟨S1x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S256x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .i32⟩
  | .hbm, ⟨23, _⟩ => ⟨S_, .f32⟩
  | .hbm, ⟨24, _⟩ => ⟨S_, .i32⟩
  | .hbm, ⟨25, _⟩ => ⟨S8192, .f32⟩
  | .hbm, ⟨26, _⟩ => ⟨S8192, .i32⟩
  | .hbm, ⟨27, _⟩ => ⟨S_, .i32⟩
  | .hbm, ⟨28, _⟩ => ⟨S8192, .i32⟩
  | .hbm, ⟨29, _⟩ => ⟨S8192, .i1⟩
  | .hbm, ⟨30, _⟩ => ⟨S_, .i32⟩
  | .hbm, ⟨31, _⟩ => ⟨S8192, .i32⟩
  | .hbm, ⟨32, _⟩ => ⟨S8192, .i32⟩
  | .hbm, ⟨33, _⟩ => ⟨S8192, .i32⟩
  | .hbm, ⟨34, _⟩ => ⟨S8192x1, .i32⟩
  | .hbm, ⟨35, _⟩ => ⟨S1, .i32⟩
  | .hbm, ⟨36, _⟩ => ⟨S_, .i32⟩
  | .hbm, ⟨37, _⟩ => ⟨S8192x1, .i32⟩
  | .hbm, ⟨38, _⟩ => ⟨S8192x1, .i1⟩
  | .hbm, ⟨39, _⟩ => ⟨S1x1, .i32⟩
  | .hbm, ⟨40, _⟩ => ⟨S8192x1, .i32⟩
  | .hbm, ⟨41, _⟩ => ⟨S8192x1, .i1⟩
  | .hbm, ⟨42, _⟩ => ⟨S8192x1, .i1⟩
  | .hbm, ⟨43, _⟩ => ⟨S_, .i1⟩
  | .hbm, ⟨44, _⟩ => ⟨S8192, .i1⟩
  | .hbm, ⟨45, _⟩ => ⟨S8192x256, .f32⟩
  | .hbm, ⟨46, _⟩ => ⟨S8192x256, .i1⟩
  | .hbm, ⟨47, _⟩ => ⟨S_, .f32⟩
  | .hbm, ⟨48, _⟩ => ⟨S8192x256, .f32⟩
  | .hbm, ⟨49, _⟩ => ⟨S8192x256, .f32⟩
  | .hbm, ⟨50, _⟩ => ⟨S8192x256, .f32⟩
  | .hbm, ⟨51, _⟩ => ⟨S8x32x32x256, .f32⟩
  | .hbm, ⟨52, _⟩ => ⟨S8x256x32x32, .f32⟩
  | .hbm, ⟨53, _⟩ => ⟨S8x32x32x256, .f32⟩
  | .hbm, ⟨54, _⟩ => ⟨S8x32x32x256, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S8x32x32x256, .f32⟩
  | .hbm, ⟨60, _⟩ => ⟨S8x32x32x256, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S8x32x32x256, .f32⟩
  | .hbm, ⟨69, _⟩ => ⟨S8x32x32x256, .f32⟩
  | .hbm, ⟨70, _⟩ => ⟨S8x256x32x32, .f32⟩
  | _, _ => ⟨S8x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_cst : Ref sig .tc := ⟨.hbm, 23, rfl⟩
abbrev main_call0_c : Ref sig .tc := ⟨.hbm, 24, rfl⟩
abbrev main_call0_v1_0 : Ref sig .tc := ⟨.hbm, 25, rfl⟩
abbrev main_v16 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_cst_2 : Ref sig .tc := ⟨.hbm, 55, rfl⟩
abbrev main_v23 : Ref sig .tc := ⟨.hbm, 56, rfl⟩
abbrev main_cst_3 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_cst_4 : Ref sig .tc := ⟨.hbm, 61, rfl⟩
abbrev main_v27 : Ref sig .tc := ⟨.hbm, 62, rfl⟩
abbrev main_cst_5 : Ref sig .tc := ⟨.hbm, 63, rfl⟩
abbrev main_v28 : Ref sig .tc := ⟨.hbm, 64, rfl⟩
abbrev main_cst_6 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩

abbrev nD : Nat := 1
abbrev τ : Topo := Topo.v7x

variable {F : FTy → Type} [FloatOps F]
-- ==== Proof.Values.lean ====
/-
  What the kernel's body leaves in each buffer, per case of its two conditions, as its payloads over the contents of
  the buffers it reads: at the first point (A) it computes the three carried tables and clears the accumulator, at the
  points between (B) it reads them, at the last (C) it also writes the loss.
-/
module

public import proofs.«01_k».proof.Proof.Gen.KernelIdeal.Frame
public import Idealize.ShloMosaic.Lib.Pipeline.Value
public import Idealize.ShloMosaic.Lib.Tactic
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The one entry of the accumulator, loaded. -/
theorem ld_one (e : Vec F S1 .f32) (inb : ∀ a, (![0] : Fin 1 → Nat) a + (![1] : Fin 1 → Nat) a ≤ S1.size a) (j : S1.Idx) :
    View.ld e (Rect.unit (s := S1) ![0] ![1] inb) j = e j :=
  congrFun (View.ld_unit_zero (S := S1) hz1 inb e) j

variable (c : Dev nD) (i : grid0.Coords)
  (a1 : Memref sig .tc .vmem S1x256x1024 .f32) (h1 : a1.IsWhole) (a2 : Memref sig .tc .vmem S1024x256 .f32) (h2 : a2.IsWhole)
  (a3 : Memref sig .tc .vmem S256x256 .f32) (h3 : a3.IsWhole) (a4 : Memref sig .tc .vmem S1x256x1024 .f32) (h4 : a4.IsWhole)
  (a5 : Memref sig .tc .vmem S1x256x1024 .f32) (h5 : a5.IsWhole) (a6 : Memref sig .tc .vmem S1x1x1024 .i32) (h6 : a6.IsWhole)
  (a7 : Memref sig .tc .smem S1x1 .f32) (h7 : a7.IsWhole) (a8 : Memref sig .tc .vmem S256x1024 .bf16) (h8 : a8.IsWhole)
  (a9 : Memref sig .tc .vmem S1024x256 .f32) (h9 : a9.IsWhole) (a10 : Memref sig .tc .vmem S1024x1 .f32) (h10 : a10.IsWhole)
  (a11 : Memref sig .tc .smem S1 .f32) (h11 : a11.IsWhole)
  (x : Vec F S1x256x1024 .f32) (K : Vec F S1024x256 .f32) (V : Vec F S256x256 .f32)
  (q : Vec F S256x1024 .bf16) (w : Vec F S1024x256 .f32) (n : Vec F S1024x1 .f32) (e : Vec F S1 .f32)

section A

variable (hc0 : cond0_0 i) (hc1 : ¬cond0_1 i)

/-- The first point: the block of the first result. -/
theorem out_A_3 : out0_A_3 c i a1 h1 a2 h2 a3 h3 a4 h4 a5 h5 a6 h6 a7 h7 a8 h8 a9 h9 a10 h10 a11 h11 hc0 hc1 x K V
    = k0_pay2 (k0_pay12 x (k0_pay8 K) (k0_pay9 K)) (k0_pay7 K V) := by
  unfold out0_A_3
  rw [View.read_writes_eq_canon _ _ _ (fun y => cover0_A_3 (y := y) ..)]
  unfold kernelRun0_A
  dsimp only
  sl_unfold_words
  rw [View.canon_unit_zero hz3]
  simp only [View.readAt_eq_ld, View.ld_unit_zero (S := S1x256x1024) hz3, View.ld_unit_zero (S := S1024x256) hz2, View.ld_unit_zero (S := S256x256) hz2,
    View.readCov_unit_zero (S := S256x1024) _ hz2, View.readCov_unit_zero (S := S1024x256) _ hz2, View.readCov_unit_zero (S := S1024x1) _ hz2,
    h1.read_unread, h2.read_unread, h3.read_unread]

/-- The first point: the block of the second result. -/
theorem out_A_4 : out0_A_4 c i a1 h1 a2 h2 a3 h3 a4 h4 a5 h5 a6 h6 a7 h7 a8 h8 a9 h9 a10 h10 a11 h11 hc0 hc1 x K V
    = k0_pay3 (k0_pay12 x (k0_pay8 K) (k0_pay9 K)) (k0_pay7 K V) := by
  unfold out0_A_4
  rw [View.read_writes_eq_canon _ _ _ (fun y => cover0_A_4 (y := y) ..)]
  unfold kernelRun0_A
  dsimp only
  sl_unfold_words
  rw [View.canon_unit_zero hz3]
  simp only [View.readAt_eq_ld, View.ld_unit_zero (S := S1x256x1024) hz3, View.ld_unit_zero (S := S1024x256) hz2, View.ld_unit_zero (S := S256x256) hz2,
    View.readCov_unit_zero (S := S256x1024) _ hz2, View.readCov_unit_zero (S := S1024x256) _ hz2, View.readCov_unit_zero (S := S1024x1) _ hz2,
    h1.read_unread, h2.read_unread, h3.read_unread]

/-- The first point: the block of positions. -/
theorem out_A_5 : out0_A_5 c i a1 h1 a2 h2 a3 h3 a4 h4 a5 h5 a6 h6 a7 h7 a8 h8 a9 h9 a10 h10 a11 h11 hc0 hc1 x K V
    = k0_pay11 x (k0_pay8 K) (k0_pay9 K) := by
  unfold out0_A_5
  rw [View.read_writes_eq_canon _ _ _ (fun y => cover0_A_5 (y := y) ..)]
  unfold kernelRun0_A
  dsimp only
  sl_unfold_words
  rw [View.canon_unit_zero hz3]
  simp only [View.readAt_eq_ld, View.ld_unit_zero (S := S1x256x1024) hz3, View.ld_unit_zero (S := S1024x256) hz2, View.ld_unit_zero (S := S256x256) hz2,
    View.readCov_unit_zero (S := S256x1024) _ hz2, View.readCov_unit_zero (S := S1024x256) _ hz2, View.readCov_unit_zero (S := S1024x1) _ hz2,
    h1.read_unread, h2.read_unread, h3.read_unread]

/-- The first point: the projected codes. -/
theorem sout_A_0 : sout0_A_0 c i a1 h1 a2 h2 a3 h3 a4 h4 a5 h5 a6 h6 a7 h7 a8 h8 a9 h9 a10 h10 a11 h11 hc0 hc1 x K V
    = k0_pay7 K V := by
  unfold sout0_A_0
  rw [View.read_writes_eq_canon _ _ _ (fun y => scover0_A_0 (y := y) ..)]
  unfold kernelRun0_A
  dsimp only
  sl_unfold_words
  rw [View.canon_unit_zero hz2]
  simp only [View.readAt_eq_ld, View.ld_unit_zero (S := S1x256x1024) hz3, View.ld_unit_zero (S := S1024x256) hz2, View.ld_unit_zero (S := S256x256) hz2,
    View.readCov_unit_zero (S := S256x1024) _ hz2, View.readCov_unit_zero (S := S1024x256) _ hz2, View.readCov_unit_zero (S := S1024x1) _ hz2,
    h1.read_unread, h2.read_unread, h3.read_unread]

/-- The first point: the doubled codes. -/
theorem sout_A_1 : sout0_A_1 c i a1 h1 a2 h2 a3 h3 a4 h4 a5 h5 a6 h6 a7 h7 a8 h8 a9 h9 a10 h10 a11 h11 hc0 hc1 x K V
    = k0_pay8 K := by
  unfold sout0_A_1
  rw [View.read_writes_eq_canon _ _ _ (fun y => scover0_A_1 (y := y) ..)]
  unfold kernelRun0_A
  dsimp only
  sl_unfold_words
  rw [View.canon_unit_zero hz2]
  simp only [View.readAt_eq_ld, View.ld_unit_zero (S := S1x256x1024) hz3, View.ld_unit_zero (S := S1024x256) hz2, View.ld_unit_zero (S := S256x256) hz2,
    View.readCov_unit_zero (S := S256x1024) _ hz2, View.readCov_unit_zero (S := S1024x256) _ hz2, View.readCov_unit_zero (S := S1024x1) _ hz2,
    h1.read_unread, h2.read_unread, h3.read_unread]

/-- The first point: the squared lengths. -/
theorem sout_A_2 : sout0_A_2 c i a1 h1 a2 h2 a3 h3 a4 h4 a5 h5 a6 h6 a7 h7 a8 h8 a9 h9 a10 h10 a11 h11 hc0 hc1 x K V
    = k0_pay9 K := by
  unfold sout0_A_2
  rw [View.read_writes_eq_canon _ _ _ (fun y => scover0_A_2 (y := y) ..)]
  unfold kernelRun0_A
  dsimp only
  sl_unfold_words
  rw [View.canon_unit_zero hz2]
  simp only [View.readAt_eq_ld, View.ld_unit_zero (S := S1x256x1024) hz3, View.ld_unit_zero (S := S1024x256) hz2, View.ld_unit_zero (S := S256x256) hz2,
    View.readCov_unit_zero (S := S256x1024) _ hz2, View.readCov_unit_zero (S := S1024x256) _ hz2, View.readCov_unit_zero (S := S1024x1) _ hz2,
    h1.read_unread, h2.read_unread, h3.read_unread]

/-- The first point: the accumulated error. -/
theorem sout_A_3 : sout0_A_3 c i a1 h1 a2 h2 a3 h3 a4 h4 a5 h5 a6 h6 a7 h7 a8 h8 a9 h9 a10 h10 a11 h11 hc0 hc1 x K V
    = fun _ => k0_pay4 (k0_pay6 x) (k0_pay12 x (k0_pay8 K) (k0_pay9 K)) (k0_pay7 K V) (Scalar.ofBits .f32 0x00000000#32) := by
  unfold sout0_A_3
  rw [View.read_writes_eq_canon _ _ _ (fun y => scover0_A_3 (y := y) ..)]
  unfold kernelRun0_A
  dsimp only
  sl_unfold_words
  refine (View.canon_cons_unit_zero (S := S1) hz1 _ ..).trans ?_
  simp only [View.readAt_eq_ld, View.ld_unit_zero (S := S1x256x1024) hz3, View.ld_unit_zero (S := S1024x256) hz2, View.ld_unit_zero (S := S256x256) hz2,
    View.readCov_unit_zero (S := S256x1024) _ hz2, View.readCov_unit_zero (S := S1024x256) _ hz2, View.readCov_unit_zero (S := S1024x1) _ hz2,
    h1.read_unread, h2.read_unread, h3.read_unread]
  rfl

end A

section B

variable (hc0 : ¬cond0_0 i) (hc1 : ¬cond0_1 i)

/-- A point between: the block of the first result. -/
theorem out_B_3 : out0_B_3 c i a1 h1 a2 h2 a3 h3 a4 h4 a5 h5 a6 h6 a7 h7 a8 h8 a9 h9 a10 h10 a11 h11 hc0 hc1 x K V q w n e
    = k0_pay2 (k0_pay12 x w n) q := by
  unfold out0_B_3
  rw [View.read_writes_eq_canon _ _ _ (fun y => cover0_B_3 (y := y) ..)]
  unfold kernelRun0_B
  dsimp only
  sl_unfold_words
  rw [View.canon_unit_zero hz3]
  simp only [View.readAt_eq_ld, View.ld_unit_zero (S := S1x256x1024) hz3, View.ld_unit_zero (S := S256x1024) hz2, View.ld_unit_zero (S := S1024x256) hz2,
    View.ld_unit_zero (S := S1024x1) hz2, h1.read_unread, h8.read_unread, h9.read_unread, h10.read_unread]

/-- A point between: the block of the second result. -/
theorem out_B_4 : out0_B_4 c i a1 h1 a2 h2 a3 h3 a4 h4 a5 h5 a6 h6 a7 h7 a8 h8 a9 h9 a10 h10 a11 h11 hc0 hc1 x K V q w n e
    = k0_pay3 (k0_pay12 x w n) q := by
  unfold out0_B_4
  rw [View.read_writes_eq_canon _ _ _ (fun y => cover0_B_4 (y := y) ..)]
  unfold kernelRun0_B
  dsimp only
  sl_unfold_words
  rw [View.canon_unit_zero hz3]
  simp only [View.readAt_eq_ld, View.ld_unit_zero (S := S1x256x1024) hz3, View.ld_unit_zero (S := S256x1024) hz2, View.ld_unit_zero (S := S1024x256) hz2,
    View.ld_unit_zero (S := S1024x1) hz2, h1.read_unread, h8.read_unread, h9.read_unread, h10.read_unread]

/-- A point between: the block of positions. -/
theorem out_B_5 : out0_B_5 c i a1 h1 a2 h2 a3 h3 a4 h4 a5 h5 a6 h6 a7 h7 a8 h8 a9 h9 a10 h10 a11 h11 hc0 hc1 x K V q w n e
    = k0_pay11 x w n := by
  unfold out0_B_5
  rw [View.read_writes_eq_canon _ _ _ (fun y => cover0_B_5 (y := y) ..)]
  unfold kernelRun0_B
  dsimp only
  sl_unfold_words
  rw [View.canon_unit_zero hz3]
  simp only [View.readAt_eq_ld, View.ld_unit_zero (S := S1x256x1024) hz3, View.ld_unit_zero (S := S256x1024) hz2, View.ld_unit_zero (S := S1024x256) hz2,
    View.ld_unit_zero (S := S1024x1) hz2, h1.read_unread, h8.read_unread, h9.read_unread, h10.read_unread]

/-- A point between: the accumulated error. -/
theorem sout_B_3 : sout0_B_3 c i a1 h1 a2 h2 a3 h3 a4 h4 a5 h5 a6 h6 a7 h7 a8 h8 a9 h9 a10 h10 a11 h11 hc0 hc1 x K V q w n e
    = fun _ => k0_pay4 (k0_pay6 x) (k0_pay12 x w n) q (e (Shape.Idx.first (by decide))) := by
  unfold sout0_B_3
  rw [View.read_writes_eq_canon _ _ _ (fun y => scover0_B_3 (y := y) ..)]
  unfold kernelRun0_B
  dsimp only
  sl_unfold_words
  refine (View.canon_unit_zero (S := S1) hz1 _ ..).trans ?_
  simp only [View.readAt_eq_ld, View.ld_unit_zero (S := S1x256x1024) hz3, View.ld_unit_zero (S := S256x1024) hz2, View.ld_unit_zero (S := S1024x256) hz2,
    View.ld_unit_zero (S := S1024x1) hz2, h1.read_unread, h8.read_unread, h9.read_unread, h10.read_unread, h11.read_unread]
  exact funext fun _ => congrArg (k0_pay4 (k0_pay6 x) (k0_pay12 x w n) q) (ld_one e _ _)

end B

section C

variable (hc0 : ¬cond0_0 i) (hc1 : cond0_1 i)

/-- The last point: the block of the first result. -/
theorem out_C_3 : out0_C_3 c i a1 h1 a2 h2 a3 h3 a4 h4 a5 h5 a6 h6 a7 h7 a8 h8 a9 h9 a10 h10 a11 h11 hc0 hc1 x K V q w n e
    = k0_pay2 (k0_pay12 x w n) q := by
  unfold out0_C_3
  rw [View.read_writes_eq_canon _ _ _ (fun y => cover0_C_3 (y := y) ..)]
  unfold kernelRun0_C
  dsimp only
  sl_unfold_words
  rw [View.canon_unit_zero hz3]
  simp only [View.readAt_eq_ld, View.ld_unit_zero (S := S1x256x1024) hz3, View.ld_unit_zero (S := S256x1024) hz2, View.ld_unit_zero (S := S1024x256) hz2,
    View.ld_unit_zero (S := S1024x1) hz2, h1.read_unread, h8.read_unread, h9.read_unread, h10.read_unread]

/-- The last point: the block of the second result. -/
theorem out_C_4 : out0_C_4 c i a1 h1 a2 h2 a3 h3 a4 h4 a5 h5 a6 h6 a7 h7 a8 h8 a9 h9 a10 h10 a11 h11 hc0 hc1 x K V q w n e
    = k0_pay3 (k0_pay12 x w n) q := by
  unfold out0_C_4
  rw [View.read_writes_eq_canon _ _ _ (fun y => cover0_C_4 (y := y) ..)]
  unfold kernelRun0_C
  dsimp only
  sl_unfold_words
  rw [View.canon_unit_zero hz3]
  simp only [View.readAt_eq_ld, View.ld_unit_zero (S := S1x256x1024) hz3, View.ld_unit_zero (S := S256x1024) hz2, View.ld_unit_zero (S := S1024x256) hz2,
    View.ld_unit_zero (S := S1024x1) hz2, h1.read_unread, h8.read_unread, h9.read_unread, h10.read_unread]

/-- The last point: the block of positions. -/
theorem out_C_5 : out0_C_5 c i a1 h1 a2 h2 a3 h3 a4 h4 a5 h5 a6 h6 a7 h7 a8 h8 a9 h9 a10 h10 a11 h11 hc0 hc1 x K V q w n e
    = k0_pay11 x w n := by
  unfold out0_C_5
  rw [View.read_writes_eq_canon _ _ _ (fun y => cover0_C_5 (y := y) ..)]
  unfold kernelRun0_C
  dsimp only
  sl_unfold_words
  rw [View.canon_unit_zero hz3]
  simp only [View.readAt_eq_ld, View.ld_unit_zero (S := S1x256x1024) hz3, View.ld_unit_zero (S := S256x1024) hz2, View.ld_unit_zero (S := S1024x256) hz2,
    View.ld_unit_zero (S := S1024x1) hz2, h1.read_unread, h8.read_unread, h9.read_unread, h10.read_unread]

/-- The last point: the accumulated error. -/
theorem sout_C_3 : sout0_C_3 c i a1 h1 a2 h2 a3 h3 a4 h4 a5 h5 a6 h6 a7 h7 a8 h8 a9 h9 a10 h10 a11 h11 hc0 hc1 x K V q w n e
    = fun _ => k0_pay4 (k0_pay6 x) (k0_pay12 x w n) q (e (Shape.Idx.first (by decide))) := by
  unfold sout0_C_3
  rw [View.read_writes_eq_canon _ _ _ (fun y => scover0_C_3 (y := y) ..)]
  unfold kernelRun0_C
  dsimp only
  sl_unfold_words
  refine (View.canon_unit_zero (S := S1) hz1 _ ..).trans ?_
  simp only [View.readAt_eq_ld, View.ld_unit_zero (S := S1x256x1024) hz3, View.ld_unit_zero (S := S256x1024) hz2, View.ld_unit_zero (S := S1024x256) hz2,
    View.ld_unit_zero (S := S1024x1) hz2, h1.read_unread, h8.read_unread, h9.read_unread, h10.read_unread, h11.read_unread]
  exact funext fun _ => congrArg (k0_pay4 (k0_pay6 x) (k0_pay12 x w n) q) (ld_one e _ _)

/-- The last point: the loss. -/
theorem out_C_6 : out0_C_6 c i a1 h1 a2 h2 a3 h3 a4 h4 a5 h5 a6 h6 a7 h7 a8 h8 a9 h9 a10 h10 a11 h11 hc0 hc1 x K V q w n e
    = fun _ => k0_pay5 (k0_pay4 (k0_pay6 x) (k0_pay12 x w n) q (e (Shape.Idx.first (by decide)))) := by
  unfold out0_C_6
  rw [View.read_writes_eq_canon _ _ _ (fun y => cover0_C_6 (y := y) ..)]
  unfold kernelRun0_C
  dsimp only
  sl_unfold_words
  refine (View.canon_unit_zero (S := S1x1) hz2 _ ..).trans ?_
  simp only [View.readAt_eq_ld, View.ld_unit_zero (S := S1x256x1024) hz3, View.ld_unit_zero (S := S256x1024) hz2, View.ld_unit_zero (S := S1024x256) hz2,
    View.ld_unit_zero (S := S1024x1) hz2, h1.read_unread, h8.read_unread, h9.read_unread, h10.read_unread, h11.read_unread]
  exact funext fun _ => congrArg (fun y => k0_pay5 (k0_pay4 (k0_pay6 x) (k0_pay12 x w n) q y)) (ld_one e _ _)

end C

end Cert.KernelIdeal.Value

end
-- ==== Proof.Spec.lean ====
/-
  The mathematics of the quantiser over the extended reals, apart from any program: the first position of a least value,
  two ways to compute it (the least word among the positions whose value is the minimum; the left fold of the
  lexicographic comparison on pairs of a value and a position), and the quantities both programs are shown to compute:
  the distance of a pixel to a code, the code chosen, the quantised vector, and the loss.
-/
module

public import Idealize.ShloMosaic.Lib.Pointwise
public import Idealize.ShloMosaic.Lib.IdealHost

@[expose] public section

noncomputable section

open scoped BigOperators
open Idealize.ShloMosaic

namespace Cert.Vq

/-! ## The first position of a least value -/

/-- `i` is the first position at which `f` takes its least value: no value is below `f i`, and every earlier value is
    above it. -/
def IsFirstMin {n : ℕ} (f : Fin n → EReal) (i : Fin n) : Prop := (∀ k, f i ≤ f k) ∧ ∀ k, k < i → f i < f k

/-- A function on a nonempty range of positions has a first position of a least value. -/
theorem exists_isFirstMin {n : ℕ} (f : Fin (n + 1) → EReal) : ∃ i, IsFirstMin f i := by
  obtain ⟨m, -, hm⟩ := Finset.exists_min_image (Finset.univ : Finset (Fin (n + 1))) f ⟨0, Finset.mem_univ _⟩
  obtain ⟨i, hi, hl⟩ := Finset.exists_min_image (Finset.univ.filter fun k => f k ≤ f m) id ⟨m, by simp⟩
  rw [Finset.mem_filter] at hi
  refine ⟨i, fun k => hi.2.trans (hm k (Finset.mem_univ k)), fun k hk => ?_⟩
  by_contra h
  have := hl k (Finset.mem_filter.mpr ⟨Finset.mem_univ k, (not_lt.mp h).trans hi.2⟩)
  exact absurd hk (not_lt.mpr this)

/-- There is one such position only. -/
theorem IsFirstMin.unique {n : ℕ} {f : Fin n → EReal} {i j : Fin n} (hi : IsFirstMin f i) (hj : IsFirstMin f j) : i = j := by
  rcases lt_trichotomy i j with h | h | h
  · exact absurd (hi.1 j) (not_le.mpr (hj.2 i h))
  · exact h
  · exact absurd (hj.1 i) (not_le.mpr (hi.2 j h))

/-- The first position at which `f` takes its least value. -/
def firstMin (f : Fin 1024 → EReal) : Fin 1024 := (exists_isFirstMin f).choose

theorem firstMin_spec (f : Fin 1024 → EReal) : IsFirstMin f (firstMin f) := (exists_isFirstMin f).choose_spec

theorem firstMin_eq {f : Fin 1024 → EReal} {i : Fin 1024} (h : IsFirstMin f i) : firstMin f = i := (firstMin_spec f).unique h

/-- A position below 1024, read as a signed 32-bit word, is itself. -/
theorem toInt_ofNat_of_lt {k : ℕ} (h : k < 2048) : (BitVec.ofNat 32 k).toInt = (k : ℤ) := by
  rw [BitVec.toInt_eq_toNat_cond, BitVec.toNat_ofNat]
  omega

/-- Distinct positions below 1024 are distinct words. -/
theorem ofNat_inj {a b : Fin 1024} (h : BitVec.ofNat 32 a.val = BitVec.ofNat 32 b.val) : a = b := by
  have := congrArg BitVec.toInt h
  rw [toInt_ofNat_of_lt (by omega), toInt_ofNat_of_lt (by omega)] at this
  exact Fin.ext (by exact_mod_cast this)

/-! ## The least value, then the least position that has it -/

/-- The minimum of all values, folded from the top element, is the value at the first least position. -/
theorem fold_min_eq (f : Fin 1024 → EReal) : (Finset.univ : Finset (Fin 1024)).fold min ⊤ f = f (firstMin f) := by
  refine le_antisymm ((Finset.fold_min_le _).mpr (.inr ⟨firstMin f, Finset.mem_univ _, le_rfl⟩)) ?_
  exact (Finset.le_fold_min _).mpr ⟨le_top, fun k _ => (firstMin_spec f).1 k⟩

/-- The signed minimum of two words has the lesser of the two signed values. -/
theorem toInt_minsi (a b : BitVec 32) : (IntOp.minsi a b).toInt = min a.toInt b.toInt := by
  unfold IntOp.minsi
  simp only [BitVec.slt, decide_eq_true_eq]
  split_ifs with h <;> omega

/-- Every position at which the value is not the least replaced by 1024, the signed minimum of the positions is the
    first least position. -/
theorem fold_minsi_eq (f : Fin 1024 → EReal) :
    (Finset.univ : Finset (Fin 1024)).fold IntOp.minsi 2147483647#32
        (fun k => if f k = f (firstMin f) then BitVec.ofNat 32 k.val else 1024#32)
      = BitVec.ofNat 32 (firstMin f).val := by
  apply BitVec.eq_of_toInt_eq
  rw [← Finset.fold_hom (op' := (min : ℤ → ℤ → ℤ)) (m := BitVec.toInt) toInt_minsi,
    toInt_ofNat_of_lt (k := (firstMin f).val) (by omega)]
  have hv : ∀ k : Fin 1024, (if f k = f (firstMin f) then BitVec.ofNat 32 k.val else 1024#32).toInt
      = if f k = f (firstMin f) then (k.val : ℤ) else 1024 := fun k => by
    split_ifs
    · exact toInt_ofNat_of_lt (by omega)
    · rfl
  refine le_antisymm ((Finset.fold_min_le _).mpr (.inr ⟨firstMin f, Finset.mem_univ _, by rw [hv, if_pos rfl]⟩)) ?_
  refine (Finset.le_fold_min _).mpr ⟨?_, fun k _ => ?_⟩
  · have : (2147483647#32 : BitVec 32).toInt = 2147483647 := by decide
    rw [this]; omega
  · rw [hv]
    split_ifs with h
    · by_contra hlt
      have hk : k < firstMin f := by rw [Fin.lt_def]; omega
      exact absurd h ((firstMin_spec f).2 k hk).ne'
    · omega

/-! ## The lexicographic fold -/

/-- The lexicographic order on pairs of a value and a word: the values first, then the words as signed integers. -/
def lexLe (a b : EReal × BitVec 32) : Prop := a.1 < b.1 ∨ a.1 = b.1 ∧ a.2.toInt ≤ b.2.toInt

theorem lexLe_refl (a : EReal × BitVec 32) : lexLe a a := .inr ⟨rfl, le_rfl⟩

theorem lexLe.trans {a b c : EReal × BitVec 32} (h : lexLe a b) (h' : lexLe b c) : lexLe a c := by
  rcases h with h | ⟨h, hi⟩ <;> rcases h' with h' | ⟨h', hi'⟩
  · exact .inl (h.trans h')
  · exact .inl (h' ▸ h)
  · exact .inl (h ▸ h')
  · exact .inr ⟨h.trans h', hi.trans hi'⟩

/-- An operation that returns one of its two operands, below both in the lexicographic order. -/
def IsLexMin (g : EReal × BitVec 32 → EReal × BitVec 32 → EReal × BitVec 32) : Prop :=
  ∀ a b, (g a b = a ∨ g a b = b) ∧ lexLe (g a b) a ∧ lexLe (g a b) b

/-- Folded over a list, such an operation gives an element of the list or the initial pair, below all of them. -/
theorem foldl_lexMin {g : EReal × BitVec 32 → EReal × BitVec 32 → EReal × BitVec 32} (hg : IsLexMin g) :
    ∀ (l : List (EReal × BitVec 32)) (a : EReal × BitVec 32),
      (l.foldl g a = a ∨ l.foldl g a ∈ l) ∧ lexLe (l.foldl g a) a ∧ ∀ b ∈ l, lexLe (l.foldl g a) b
  | [], a => ⟨.inl rfl, lexLe_refl a, by simp⟩
  | b :: l, a => by
    obtain ⟨h1, h2, h3⟩ := foldl_lexMin hg l (g a b)
    obtain ⟨k1, k2, k3⟩ := hg a b
    refine ⟨?_, h2.trans k2, ?_⟩
    · rw [List.foldl_cons]
      rcases h1 with h1 | h1
      · rcases k1 with k1 | k1
        · exact .inl (h1.trans k1)
        · exact .inr (List.mem_cons.mpr (.inl (h1.trans k1)))
      · exact .inr (List.mem_cons.mpr (.inr h1))
    · intro d hd
      rcases List.mem_cons.mp hd with rfl | hd
      · exact h2.trans k3
      · exact h3 d hd

/-- Folded over any listing of the pairs `(f k, k)`, from the pair of the top element and position 0, such an operation
    ends at the first least position. -/
theorem foldl_eq_firstMin {g : EReal × BitVec 32 → EReal × BitVec 32 → EReal × BitVec 32} (hg : IsLexMin g)
    (f : Fin 1024 → EReal) (l : List (EReal × BitVec 32))
    (hl : ∀ p, p ∈ l ↔ ∃ k : Fin 1024, p = (f k, BitVec.ofNat 32 k.val)) :
    (l.foldl g (⊤, 0#32)).2 = BitVec.ofNat 32 (firstMin f).val := by
  obtain ⟨h1, -, h3⟩ := foldl_lexMin hg l (⊤, 0#32)
  have hall : ∀ k : Fin 1024, lexLe (l.foldl g (⊤, 0#32)) (f k, BitVec.ofNat 32 k.val) := fun k => h3 _ ((hl _).mpr ⟨k, rfl⟩)
  rcases h1 with h1 | h1
  · rw [h1] at hall ⊢
    have htop : ∀ k, f k = ⊤ := fun k => by
      rcases hall k with h | ⟨h, -⟩
      · exact absurd h (not_lt.mpr le_top)
      · exact h.symm
    have : firstMin f = (0 : Fin 1024) := firstMin_eq
      ⟨fun k => by rw [htop, htop], fun k hk => absurd hk (by rw [Fin.lt_def]; simp)⟩
    rw [this]; rfl
  · obtain ⟨i, hi⟩ := (hl _).mp h1
    rw [hi] at hall ⊢
    have : firstMin f = i := firstMin_eq ⟨fun k => by
        rcases hall k with h | ⟨h, -⟩
        · exact h.le
        · exact h.le, fun k hk => by
        rcases hall k with h | ⟨h, h'⟩
        · exact h
        · dsimp only at h'
          rw [toInt_ofNat_of_lt (by omega), toInt_ofNat_of_lt (by omega)] at h'
          rw [Fin.lt_def] at hk; omega⟩
    rw [this]

/-! ## Two identities of the extended reals -/

/-- A sum of products whose left factors are doubled is twice the sum of the products. -/
theorem sum_double {ι : Type} (s : Finset ι) (a b : ι → EReal) :
    ∑ i ∈ s, (a i + a i) * b i = 2 * ∑ i ∈ s, b i * a i := by
  have h2 : (2 : EReal) = 1 + 1 := one_add_one_eq_two.symm
  have h1 : ∀ x : EReal, 2 * x = x + x := fun x => by
    rw [h2, EReal.right_distrib_of_nonneg zero_le_one zero_le_one, one_mul]
  classical
  induction s using Finset.induction_on with
  | empty => simp
  | insert i s hi ih =>
    rw [Finset.sum_insert hi, Finset.sum_insert hi, ih,
      EReal.left_distrib_of_nonneg_of_ne_top (by rw [h2]; exact add_nonneg zero_le_one zero_le_one) (by exact EReal.coe_ne_top 2)]
    congr 1
    rw [← h1, mul_assoc, mul_comm (a i)]

/-- Adding a real number to a difference from it gives the minuend back. -/
theorem add_sub_cancel_of_finite {x q : EReal} (hb : x ≠ ⊥) (ht : x ≠ ⊤) : x + (q - x) = q := by
  lift x to ℝ using ⟨ht, hb⟩
  induction q using EReal.rec with
  | bot => simp
  | top => simp
  | coe r => rw [← EReal.coe_sub, ← EReal.coe_add]; congr 1; ring

/-! ## What the quantiser computes -/

section Quantities

/-- The pixel `p` of channel `c` of image `b`: `p` counts the 32 by 32 positions row by row. -/
def pix (X : (⟨4, ![8, 256, 32, 32]⟩ : Shape).Idx → EReal) (b : Fin 8) (c : Fin 256) (p : Fin 1024) : EReal :=
  X (ix4 b c (⟨p.val / 32, by omega⟩ : Fin 32) (⟨p.val % 32, by omega⟩ : Fin 32))

variable (X : (⟨4, ![8, 256, 32, 32]⟩ : Shape).Idx → EReal) (K : (⟨2, ![1024, 256]⟩ : Shape).Idx → EReal)
  (V : (⟨2, ![256, 256]⟩ : Shape).Idx → EReal)

/-- The squared distance of pixel `p` of image `b` to code `k`, in the expanded form. -/
def dist (b : Fin 8) (p : Fin 1024) (k : Fin 1024) : EReal :=
  (∑ c, pix X b c p * pix X b c p + ∑ c, K (ix2 k c) * K (ix2 k c)) - 2 * ∑ c, pix X b c p * K (ix2 k c)

/-- The code of pixel `p` of image `b`: the first nearest one. -/
def code (b : Fin 8) (p : Fin 1024) : Fin 1024 := firstMin (dist X K b p)

/-- Channel `c` of the quantised pixel: its code's key through the value matrix. -/
def quant (b : Fin 8) (c : Fin 256) (p : Fin 1024) : EReal := ∑ j, K (ix2 (code X K b p) j) * V (ix2 j c)

/-- The squared error of a channel of a pixel. -/
def sqErr (b : Fin 8) (c : Fin 256) (p : Fin 1024) : EReal :=
  (quant X K V b c p - pix X b c p) * (quant X K V b c p - pix X b c p)

/-- The squared error summed over an image. -/
def imgErr (b : Fin 8) : EReal := ∑ c, ∑ p, sqErr X K V b c p

/-- The loss: the mean squared error plus a quarter of it. The constants are the values of their 32-bit patterns. -/
def loss : EReal :=
  Ideal.div (∑ b, imgErr X K V b) (Ideal.ofBits .f32 0x4A000000#32)
    + Ideal.ofBits .f32 0x3E800000#32 * Ideal.div (∑ b, imgErr X K V b) (Ideal.ofBits .f32 0x4A000000#32)

/-- The quantised images: entry `(b, c, y, x)` is channel `c` of the quantised pixel `32 y + x` of image `b`. -/
def quantOut : (⟨4, ![8, 256, 32, 32]⟩ : Shape).Idx → EReal := fun i =>
  quant X K V (i 0) (i 1) ⟨(i 2).val * 32 + (i 3).val, by
    have h2 : (i 2).val < 32 := (i 2).isLt
    have h3 : (i 3).val < 32 := (i 3).isLt
    omega⟩

/-- The codes of all pixels in one row: entry `i` is the code of pixel `i % 1024` of image `i / 1024`, as a word. -/
def codeOut : (⟨1, ![8192]⟩ : Shape).Idx → BitVec 32 := fun i =>
  BitVec.ofNat 32 (code X K
    ⟨(i 0).val / 1024, by have h : (i 0).val < 8192 := (i 0).isLt; omega⟩ ⟨(i 0).val % 1024, Nat.mod_lt _ (by decide)⟩).val

end Quantities

end Cert.Vq

end
-- ==== Proof.Payloads.lean ====
/-
  The kernel's payloads over the extended reals: each value its body stores, read at one index, and from them the
  quantities of `Spec.lean` — the code chosen for a pixel, the quantised vector, the squared error of one image.
-/
module

public import proofs.«01_k».proof.Proof.Spec
public import proofs.«01_k».proof.Proof.Gen.KernelIdeal.Skeleton

@[expose] public section

set_option maxRecDepth 16384

noncomputable section

open scoped BigOperators
open Idealize.ShloMosaic

namespace Cert.KernelIdeal.Value

open Cert.KernelIdeal Cert.KernelIdeal.Gen Cert.Vq

/-! ## Each payload at an index -/

/-- The projected codes: entry `(c, k)` is the dot product of column `c` of the value weights with code `k`. -/
theorem pay7 (K : Vec Ideal S1024x256 .f32) (V : Vec Ideal S256x256 .f32) (c : Fin 256) (k : Fin 1024) :
    k0_pay7 K V (ix2 c k) = ∑ j : Fin 256, V (ix2 j c) * K (ix2 k j) := by
  pointwise [k0_pay7]

/-- The doubled codes. -/
theorem pay8 (K : Vec Ideal S1024x256 .f32) (k : Fin 1024) (c : Fin 256) :
    k0_pay8 K (ix2 k c) = K (ix2 k c) + K (ix2 k c) := by
  pointwise [k0_pay8]

/-- The squared length of each code. -/
theorem pay9 (K : Vec Ideal S1024x256 .f32) (k : Fin 1024) (z : Fin 1) :
    k0_pay9 K (ix2 k z) = ∑ c : Fin 256, K (ix2 k c) * K (ix2 k c) := by
  pointwise [k0_pay9]

/-- The pattern of the minimum's starting value is the greatest extended real. -/
theorem ofBits_inf : Ideal.ofBits .f32 0x7F800000#32 = ⊤ := by
  simp [Ideal.ofBits, Ideal.ieee]

/-- The least word among the positions whose distance is the minimum is the first position of a least distance. -/
theorem pay10 (x : Vec Ideal S1x256x1024 .f32) (w : Vec Ideal S1024x256 .f32) (n : Vec Ideal S1024x1 .f32) (p : Fin 1024) :
    k0_pay10 x w n (ix1 p) = BitVec.ofNat 32 (firstMin fun k =>
      ((∑ c : Fin 256, x (ix3 0 c p) * x (ix3 0 c p)) + n (ix2 k 0)) - ∑ c : Fin 256, w (ix2 k c) * x (ix3 0 c p)).val := by
  pointwise [k0_pay10, k0_pay6]
  rw [ofBits_inf]
  simp only [fold_min_eq]
  exact fold_minsi_eq _

/-- The stored positions are those positions. -/
theorem pay11 (x : Vec Ideal S1x256x1024 .f32) (w : Vec Ideal S1024x256 .f32) (n : Vec Ideal S1024x1 .f32) (p : Fin 1024) :
    k0_pay11 x w n (ix3 0 0 p) = k0_pay10 x w n (ix1 p) := by
  pointwise [k0_pay11]

/-- The one-hot matrix: one where the row is the position chosen for the column, zero elsewhere. -/
theorem pay12 (x : Vec Ideal S1x256x1024 .f32) (w : Vec Ideal S1024x256 .f32) (n : Vec Ideal S1024x1 .f32) (k p i : Fin 1024)
    (hi : k0_pay10 x w n (ix1 p) = BitVec.ofNat 32 i.val) :
    k0_pay12 x w n (ix2 k p) = if k = i then (1 : EReal) else 0 := by
  pointwise [k0_pay12]
  rw [hi]
  by_cases h : k = i
  · rw [h, if_pos rfl, show IntOp.cmpi .eq (BitVec.ofNat 32 i.val) (BitVec.ofNat 32 i.val) = 1#1 by simp [IntOp.cmpi]]
    show (((BitVec.setWidth 32 1#1).toInt : ℝ) : EReal) = 1
    simp
  · have hne : (BitVec.ofNat 32 k.val == BitVec.ofNat 32 i.val) = false := beq_eq_false_iff_ne.mpr fun e => h (ofNat_inj e)
    rw [if_neg h, show IntOp.cmpi .eq (BitVec.ofNat 32 k.val) (BitVec.ofNat 32 i.val) = 0#1 by simp [IntOp.cmpi, hne]]
    show (((BitVec.setWidth 32 0#1).toInt : ℝ) : EReal) = 0
    simp

/-- The product of the projected codes with the one-hot matrix, as a sum. -/
theorem pay1 (o : FVec Ideal S1024x1024 .bf16) (q : Vec Ideal S256x1024 .bf16) (c : Fin 256) (p : Fin 1024) :
    k0_pay1 o q (ix2 c p) = ∑ k : Fin 1024, q (ix2 c k) * o (ix2 k p) := by
  pointwise [k0_pay1]

/-- The block of the first result is that product. -/
theorem pay2 (o : FVec Ideal S1024x1024 .bf16) (q : Vec Ideal S256x1024 .bf16) (z : Fin 1) (c : Fin 256) (p : Fin 1024) :
    k0_pay2 o q (ix3 z c p) = k0_pay1 o q (ix2 c p) := by
  pointwise [k0_pay2]

/-- The block of the second result is the same product. -/
theorem pay3 (o : FVec Ideal S1024x1024 .bf16) (q : Vec Ideal S256x1024 .bf16) (z : Fin 1) (c : Fin 256) (p : Fin 1024) :
    k0_pay3 o q (ix3 z c p) = k0_pay1 o q (ix2 c p) := by
  pointwise [k0_pay3]

/-- The image's block with its leading axis of one dropped. -/
theorem pay6 (x : Vec Ideal S1x256x1024 .f32) (c : Fin 256) (p : Fin 1024) : k0_pay6 x (ix2 c p) = x (ix3 0 c p) := by
  pointwise [k0_pay6]

/-- The accumulated error: the old one plus the block's sum of squares. -/
theorem pay4 (x : FVec Ideal S256x1024 .f32) (o : FVec Ideal S1024x1024 .bf16) (q : Vec Ideal S256x1024 .bf16) (a : Ideal .f32) :
    k0_pay4 x o q a = a + ∑ c : Fin 256, ∑ p : Fin 1024, (k0_pay1 o q (ix2 c p) - x (ix2 c p)) * (k0_pay1 o q (ix2 c p) - x (ix2 c p)) := by
  pointwise [k0_pay4]

/-- The loss of an accumulated error: its mean plus a quarter of its mean. -/
theorem pay5 (a : Ideal .f32) : k0_pay5 (F := Ideal) a =
    Ideal.div a (Ideal.ofBits .f32 0x4A000000#32) + Ideal.ofBits .f32 0x3E800000#32 * Ideal.div a (Ideal.ofBits .f32 0x4A000000#32) := by
  pointwise [k0_pay5]

/-! ## One image's block -/

section Block

variable (X : Vec Ideal S8x256x32x32 .f32) (K : Vec Ideal S1024x256 .f32) (V : Vec Ideal S256x256 .f32) (b : Fin 8)
variable (x : Vec Ideal S1x256x1024 .f32) (hx : ∀ (c : Fin 256) (p : Fin 1024), x (ix3 0 c p) = pix X b c p)
include hx

/-- The position found for pixel `p` of image `b` is its code. -/
theorem code_block (p : Fin 1024) :
    k0_pay10 x (k0_pay8 K) (k0_pay9 K) (ix1 p) = BitVec.ofNat 32 (code X K b p).val := by
  rw [pay10]
  congr 2
  unfold code
  congr 1
  funext k
  simp only [pay8, pay9, hx]
  unfold Vq.dist
  rw [sum_double]

/-- The product with the one-hot matrix selects the projected code, which is the quantised pixel. -/
theorem quant_block (c : Fin 256) (p : Fin 1024) :
    k0_pay1 (k0_pay12 x (k0_pay8 K) (k0_pay9 K)) (k0_pay7 K V) (ix2 c p) = quant X K V b c p := by
  rw [pay1, Finset.sum_eq_single (code X K b p)]
  · rw [pay12 _ _ _ _ _ _ (code_block X K b x hx p), if_pos rfl, mul_one, pay7]
    exact Finset.sum_congr rfl fun j _ => mul_comm _ _
  · intro k _ hk
    rw [pay12 _ _ _ _ _ _ (code_block X K b x hx p), if_neg hk, mul_zero]
  · exact fun h => absurd (Finset.mem_univ _) h

/-- The point adds image `b`'s squared error to what was accumulated. -/
theorem err_block (a : Ideal .f32) :
    k0_pay4 (k0_pay6 x) (k0_pay12 x (k0_pay8 K) (k0_pay9 K)) (k0_pay7 K V) a = a + imgErr X K V b := by
  rw [pay4]
  simp only [quant_block X K V b x hx, pay6, hx]
  rfl

end Block

end Cert.KernelIdeal.Value

end
-- ==== Proof.Points.lean ====
/-
  What the kernel has after each grid point: the blocks it reads are the images and the two weight matrices, the three
  carried tables are those of the whole launch, and the accumulator holds the squared error of the images so far
  (by induction on the point).
-/
module

public import proofs.«01_k».proof.Proof.Values
public import proofs.«01_k».proof.Proof.Payloads

@[expose] public section

set_option maxRecDepth 16384

noncomputable section

open scoped BigOperators
open Idealize.ShloMosaic Idealize.ShloMosaic.TcCoe Idealize.SL.Sem
open Idealize.ShloMosaic.Pipeline (Dat)

namespace Cert.KernelIdeal.Value

open Cert.KernelIdeal Cert.KernelIdeal.Gen Cert.Vq

variable (m : (ℓ : Loc nD τ sig) → Buf (Elt Ideal) ℓ)

/-- The three arguments as launched. -/
abbrev argX (c : Dev nD) : Vec Ideal S8x256x32x32 .f32 := m ((c : Thread nD τ).loc main_arg0)
abbrev argK (c : Dev nD) : Vec Ideal S1024x256 .f32 := m ((c : Thread nD τ).loc main_arg1)
abbrev argV (c : Dev nD) : Vec Ideal S256x256 .f32 := m ((c : Thread nD τ).loc main_arg2)

/-- The image a grid point works on. -/
def image (t : Fin cfg0.N) : Fin 8 := ⟨t.val, lt_of_lt_of_eq t.isLt N_0⟩

/-! ## The input blocks -/

/-- The array the first window reads is the image array with its two spatial axes joined. -/
theorem V_v0 (c : Dev nD) (b : Fin 8) (ch : Fin 256) (p : Fin 1024) :
    V m c main_v0 (ix3 b ch p) = pix (argX m c) b ch p := by
  show StableHlo.after hostOps0 (fun b => m (c, b)) (Proc.devRef .tc main_v0) (ix3 b ch p) = _
  have h : StableHlo.after hostOps0 (fun b => m (c, b)) (Proc.devRef .tc main_v0)
      = shapeCast S8x256x1024 (argX m c) shapeCasts_S8x256x32x32_S8x256x1024 := by
    after_results
    rfl
  rw [h]
  refine shapeCast_apply _ _ _ (ix4 b ch ⟨p.val / 32, by omega⟩ ⟨p.val % 32, by omega⟩) ?_
  rw [Shape.rowMajor_val_three, Shape.rowMajor_val_four]
  show ((b.val * 256 + ch.val) * 32 + p.val / 32) * 32 + p.val % 32 = (b.val * 256 + ch.val) * 1024 + p.val
  omega

/-- The first window's index at a point. -/
theorem idx0 : ∀ t : Fin cfg0.N, win0_0.index t = ![t.val, 0, 0] := by decide +kernel

/-- The block the first window has at point `t` is image `t`. -/
theorem iblk0 (c : Dev nD) (t : Fin cfg0.N) (ch : Fin 256) (p : Fin 1024) :
    iblk m c 0 t (ix3 0 ch p) = pix (argX m c) (image t) ch p := by
  rw [← V_v0]
  unfold iblk
  rw [View.read_apply]
  show V m c main_v0 ((win0_0.rect t).emb (ix3 0 ch p)) = _
  congr 1
  funext a
  apply Fin.ext
  rw [Pipeline.Window.rect_emb_val win0_0 t _ a rfl, idx0]
  match a with
  | ⟨0, _⟩ => show t.val * 1 + 0 = t.val; omega
  | ⟨1, _⟩ => show 0 * 256 + ch.val = ch.val; omega
  | ⟨2, _⟩ => show 0 * 1024 + p.val = p.val; omega

/-- The second window's block is the whole key matrix. -/
theorem iblk1 (c : Dev nD) (t : Fin cfg0.N) : iblk m c 1 t = argK m c := by
  have hz : (fun a => win0_1.index t a * main_arg1.ty.shape.size a) = fun _ => 0 := by
    revert t; decide +kernel
  have h := Memref.read_access_unit_zero (Elt Ideal) main_arg1 hz (fun a => by rw [congrFun hz a]; simp) (V m c main_arg1)
  exact h.trans (V_main_arg1 m c)

/-- The third window's block is the whole value matrix. -/
theorem iblk2 (c : Dev nD) (t : Fin cfg0.N) : iblk m c 2 t = argV m c := by
  have hz : (fun a => win0_2.index t a * main_arg2.ty.shape.size a) = fun _ => 0 := by
    revert t; decide +kernel
  have h := Memref.read_access_unit_zero (Elt Ideal) main_arg2 hz (fun a => by rw [congrFun hz a]; simp) (V m c main_arg2)
  exact h.trans (V_main_arg2 m c)

/-! ## After each point -/

/-- The squared error of image `n`, zero past the last image. -/
def errAt (c : Dev nD) (n : ℕ) : EReal := if h : n < 8 then imgErr (argX m c) (argK m c) (argV m c) ⟨n, h⟩ else 0

theorem errAt_image (c : Dev nD) (t : Fin cfg0.N) : imgErr (argX m c) (argK m c) (argV m c) (image t) = errAt m c t.val :=
  by unfold errAt image; rw [dif_pos (lt_of_lt_of_eq t.isLt N_0)]

/-- The one-hot matrix of point `t`. -/
abbrev hot (c : Dev nD) (t : Fin cfg0.N) : FVec Ideal S1024x1024 .bf16 :=
  k0_pay12 (iblk m c 0 t) (k0_pay8 (argK m c)) (k0_pay9 (argK m c))

/-- What a point leaves in the buffers it carries and in the three blocks it writes back. -/
structure After (c : Dev nD) (n : ℕ) (hn : n < cfg0.N) : Prop where
  ste : (outsAt0 m c n hn).1 = k0_pay2 (hot m c ⟨n, hn⟩) (k0_pay7 (argK m c) (argV m c))
  grad : (outsAt0 m c n hn).2.1 = k0_pay3 (hot m c ⟨n, hn⟩) (k0_pay7 (argK m c) (argV m c))
  pos : (outsAt0 m c n hn).2.2.1 = k0_pay11 (iblk m c 0 ⟨n, hn⟩) (k0_pay8 (argK m c)) (k0_pay9 (argK m c))
  proj : (outsAt0 m c n hn).2.2.2.2.1 = k0_pay7 (argK m c) (argV m c)
  twice : (outsAt0 m c n hn).2.2.2.2.2.1 = k0_pay8 (argK m c)
  len : (outsAt0 m c n hn).2.2.2.2.2.2.1 = k0_pay9 (argK m c)
  acc : (outsAt0 m c n hn).2.2.2.2.2.2.2 = fun _ => ∑ b ∈ Finset.range (n + 1), errAt m c b

/-- One step of the accumulator. -/
theorem acc_step (c : Dev nD) (t : Fin cfg0.N) (a : EReal) :
    k0_pay4 (k0_pay6 (iblk m c 0 t)) (hot m c t) (k0_pay7 (argK m c) (argV m c)) a = a + errAt m c t.val := by
  rw [← errAt_image]
  exact err_block (argX m c) (argK m c) (argV m c) (image t) (iblk m c 0 t) (iblk0 m c t) a

theorem after (c : Dev nD) : ∀ (n : ℕ) (hn : n < cfg0.N), After m c n hn
  | 0, hn => by
    have h := outsAt0_A m c ⟨0, hn⟩ rfl (by show ¬0 % 8 = 7; decide)
    have h' : outsAt0 m c 0 hn = _ := h
    constructor <;> rw [h']
    · dsimp only; rw [out_A_3, iblk1, iblk2]
    · dsimp only; rw [out_A_4, iblk1, iblk2]
    · dsimp only; rw [out_A_5, iblk1]
    · dsimp only; rw [sout_A_0, iblk1, iblk2]
    · dsimp only; rw [sout_A_1, iblk1]
    · dsimp only; rw [sout_A_2, iblk1]
    · dsimp only
      rw [sout_A_3, iblk1, iblk2, acc_step, Finset.sum_range_one]
      funext _
      exact (congrArg (· + _) Ideal.ofBits_zero_f32).trans (zero_add _)
  | n + 1, hn => by
    have hN : cfg0.N = 8 := N_0
    have ih := after c n (Nat.lt_of_succ_lt hn)
    have h0 : ¬(⟨n + 1, hn⟩ : Fin cfg0.N).val % 8 = 0 := by dsimp only; omega
    by_cases h1 : (⟨n + 1, hn⟩ : Fin cfg0.N).val % 8 = 7
    · have h' : outsAt0 m c (n + 1) hn = _ := outsAt0_C m c ⟨n + 1, hn⟩ h0 h1
      constructor <;> rw [h']
      · dsimp only; rw [out_C_3]; simp only [Nat.add_sub_cancel, ih.proj, ih.twice, ih.len]
      · dsimp only; rw [out_C_4]; simp only [Nat.add_sub_cancel, ih.proj, ih.twice, ih.len]
      · dsimp only; rw [out_C_5]; simp only [Nat.add_sub_cancel, ih.twice, ih.len]
      · exact ih.proj
      · exact ih.twice
      · exact ih.len
      · dsimp only
        rw [sout_C_3]
        simp only [Nat.add_sub_cancel, ih.proj, ih.twice, ih.len, ih.acc]
        rw [acc_step, Finset.sum_range_succ _ (n + 1)]
    · have h' : outsAt0 m c (n + 1) hn = _ := outsAt0_B m c ⟨n + 1, hn⟩ h0 h1
      constructor <;> rw [h']
      · dsimp only; rw [out_B_3]; simp only [Nat.add_sub_cancel, ih.proj, ih.twice, ih.len]
      · dsimp only; rw [out_B_4]; simp only [Nat.add_sub_cancel, ih.proj, ih.twice, ih.len]
      · dsimp only; rw [out_B_5]; simp only [Nat.add_sub_cancel, ih.twice, ih.len]
      · exact ih.proj
      · exact ih.twice
      · exact ih.len
      · dsimp only
        rw [sout_B_3]
        simp only [Nat.add_sub_cancel, ih.proj, ih.twice, ih.len, ih.acc]
        rw [acc_step, Finset.sum_range_succ _ (n + 1)]

/-- The last point also leaves the loss. -/
theorem last_loss (c : Dev nD) :
    (outsAt0 m c 7 (by rw [show cfg0.N = 8 from N_0]; decide)).2.2.2.1 = fun _ => loss (argX m c) (argK m c) (argV m c) := by
  have hN : cfg0.N = 8 := N_0
  have ih := after m c 6 (by rw [hN]; decide)
  have h' : outsAt0 m c 7 (by rw [hN]; decide) = _ := outsAt0_C m c ⟨7, by rw [hN]; decide⟩ (by show ¬7 % 8 = 0; decide) (by show 7 % 8 = 7; decide)
  rw [h']
  dsimp only
  rw [out_C_6]
  simp only [Nat.reduceSub, ih.proj, ih.twice, ih.len, ih.acc]
  rw [acc_step, ← Finset.sum_range_succ (errAt m c) 7, Finset.sum_range]
  funext _
  rw [pay5]
  have hs : ∑ b : Fin 8, errAt m c b.val = ∑ b, imgErr (argX m c) (argK m c) (argV m c) b :=
    Finset.sum_congr rfl fun b _ => dif_pos b.isLt
  rw [hs]
  rfl

end Cert.KernelIdeal.Value

end
-- ==== Proof.KernelRun.lean ====
/-
  The kernel's run read at its four results: the arrays its grid writes are the quantised vectors, the codes and the
  loss, and the lines after the grid split the joined axes again.
-/
module

public import proofs.«01_k».proof.Proof.Points

@[expose] public section

set_option maxRecDepth 16384

noncomputable section

open scoped BigOperators
open Idealize.ShloMosaic Idealize.ShloMosaic.TcCoe Idealize.SL.Sem
open Idealize.ShloMosaic.Pipeline (Dat)

namespace Cert.KernelIdeal.Value

open Cert.KernelIdeal Cert.KernelIdeal.Gen Cert.Vq

variable (m : (ℓ : Loc nD τ sig) → Buf (Elt Ideal) ℓ) (ρ : Dev nD → PrngReg)

/-! ## The arrays the grid writes -/

/-- Each of the three blocked result windows is at block `t` at point `t`; the loss window never moves. -/
theorem idx3 : ∀ t : Fin cfg0.N, win0_3.index t = ![t.val, 0, 0] := by decide +kernel
theorem idx4 : ∀ t : Fin cfg0.N, win0_4.index t = ![t.val, 0, 0] := by decide +kernel
theorem idx5 : ∀ t : Fin cfg0.N, win0_5.index t = ![t.val, 0, 0] := by decide +kernel

/-- The quantised vectors, as contents of a result array with joined spatial axes. -/
def quantArr (c : Dev nD) : Vec Ideal S8x256x1024 .f32 :=
  fun i => quant (argX m c) (argK m c) (argV m c) (i 0) (i 1) (i 2)

/-- The codes, as contents of the result array of positions. -/
def codeArr (c : Dev nD) : Vec Ideal S8x1x1024 .i32 :=
  fun i => BitVec.ofNat 32 (code (argX m c) (argK m c) (i 0) (i 2)).val

theorem ste_at (c : Dev nD) (t : Fin cfg0.N) (y : S1x256x1024.Idx) :
    (outsAt0 m c t.val t.isLt).1 y = quant (argX m c) (argK m c) (argV m c) (image t) (y 1) (y 2) := by
  obtain ⟨z, ch, p, rfl⟩ : ∃ z ch p, y = ix3 z ch p := ⟨y 0, y 1, y 2, eq_ix3 y⟩
  rw [(after m c t.val t.isLt).ste, pay2]
  exact quant_block _ _ _ _ _ (iblk0 m c t) ch p

theorem grad_at (c : Dev nD) (t : Fin cfg0.N) (y : S1x256x1024.Idx) :
    (outsAt0 m c t.val t.isLt).2.1 y = quant (argX m c) (argK m c) (argV m c) (image t) (y 1) (y 2) := by
  obtain ⟨z, ch, p, rfl⟩ : ∃ z ch p, y = ix3 z ch p := ⟨y 0, y 1, y 2, eq_ix3 y⟩
  rw [(after m c t.val t.isLt).grad, pay3]
  exact quant_block _ _ _ _ _ (iblk0 m c t) ch p

theorem pos_at (c : Dev nD) (t : Fin cfg0.N) (y : S1x1x1024.Idx) :
    (outsAt0 m c t.val t.isLt).2.2.1 y = BitVec.ofNat 32 (code (argX m c) (argK m c) (image t) (y 2)).val := by
  obtain ⟨z, z', p, rfl⟩ : ∃ z z' p, y = ix3 z z' p := ⟨y 0, y 1, y 2, eq_ix3 y⟩
  obtain rfl : z = 0 := Subsingleton.elim _ _
  obtain rfl : z' = 0 := Subsingleton.elim _ _
  rw [(after m c t.val t.isLt).pos, pay11]
  exact code_block _ _ _ _ (iblk0 m c t) p

theorem flushed3 (c : Dev nD) (t : Fin cfg0.N) :
    (dats m 0 c).flushed 3 t = ((cfg0.win 3).blk t).view.read (Elt Ideal) (quantArr m c) := by
  show (cfg0.win 3).cut (grid0.coords t) ((dats m 0 c).after 3 t) = _
  rw [after0_3]
  funext y
  rw [View.read_apply]
  refine (ste_at m c t y).trans ?_
  show _ = quantArr m c ((win0_3.rect t).emb y)
  have e : ∀ a, ((win0_3.rect t).emb y a : Nat) = (![t.val, 0, 0] : Fin 3 → Nat) a * win0_3.size a + y a := fun a => by
    rw [Pipeline.Window.rect_emb_val win0_3 t _ a rfl, idx3]
  have y0 : (y 0 : Nat) < 1 := (y 0).isLt
  unfold quantArr
  congr 1
  · apply Fin.ext; have := e 0; show t.val = _; rw [this]; show t.val = t.val * 1 + (y 0 : Nat); omega
  · apply Fin.ext; have := e 1; rw [this]; show (y 1 : Nat) = 0 * 256 + (y 1 : Nat); omega
  · apply Fin.ext; have := e 2; rw [this]; show (y 2 : Nat) = 0 * 1024 + (y 2 : Nat); omega

theorem flushed4 (c : Dev nD) (t : Fin cfg0.N) :
    (dats m 0 c).flushed 4 t = ((cfg0.win 4).blk t).view.read (Elt Ideal) (quantArr m c) := by
  show (cfg0.win 4).cut (grid0.coords t) ((dats m 0 c).after 4 t) = _
  rw [after0_4]
  funext y
  rw [View.read_apply]
  refine (grad_at m c t y).trans ?_
  show _ = quantArr m c ((win0_4.rect t).emb y)
  have e : ∀ a, ((win0_4.rect t).emb y a : Nat) = (![t.val, 0, 0] : Fin 3 → Nat) a * win0_4.size a + y a := fun a => by
    rw [Pipeline.Window.rect_emb_val win0_4 t _ a rfl, idx4]
  have y0 : (y 0 : Nat) < 1 := (y 0).isLt
  unfold quantArr
  congr 1
  · apply Fin.ext; have := e 0; show t.val = _; rw [this]; show t.val = t.val * 1 + (y 0 : Nat); omega
  · apply Fin.ext; have := e 1; rw [this]; show (y 1 : Nat) = 0 * 256 + (y 1 : Nat); omega
  · apply Fin.ext; have := e 2; rw [this]; show (y 2 : Nat) = 0 * 1024 + (y 2 : Nat); omega

theorem flushed5 (c : Dev nD) (t : Fin cfg0.N) :
    (dats m 0 c).flushed 5 t = ((cfg0.win 5).blk t).view.read (Elt Ideal) (codeArr m c) := by
  show (cfg0.win 5).cut (grid0.coords t) ((dats m 0 c).after 5 t) = _
  rw [after0_5]
  funext y
  rw [View.read_apply]
  refine (pos_at m c t y).trans ?_
  show _ = codeArr m c ((win0_5.rect t).emb y)
  have e : ∀ a, ((win0_5.rect t).emb y a : Nat) = (![t.val, 0, 0] : Fin 3 → Nat) a * win0_5.size a + y a := fun a => by
    rw [Pipeline.Window.rect_emb_val win0_5 t _ a rfl, idx5]
  have y0 : (y 0 : Nat) < 1 := (y 0).isLt
  unfold codeArr
  congr 3
  · apply Fin.ext; have := e 0; show t.val = _; rw [this]; show t.val = t.val * 1 + (y 0 : Nat); omega
  · apply Fin.ext; have := e 2; rw [this]; show (y 2 : Nat) = 0 * 1024 + (y 2 : Nat); omega

theorem flushed6 (c : Dev nD) (t : Fin cfg0.N) (hf : (cfg0.win 6).flush t = true) :
    (dats m 0 c).flushed 6 t
      = ((cfg0.win 6).blk t).view.read (Elt Ideal) (fun _ => loss (argX m c) (argK m c) (argV m c)) := by
  have hN : cfg0.N = 8 := N_0
  have h7 : t.val = 7 := by have := (flush0_6 t).mp hf; have := t.isLt; omega
  obtain rfl : t = t0_7 := Fin.ext h7
  show (cfg0.win 6).cut (grid0.coords t0_7) ((dats m 0 c).after 6 t0_7) = _
  rw [after0_6]
  funext y
  rw [View.read_apply]
  exact congrFun (last_loss m c) y

/-- A point's block of a blocked window covers the indices whose first coordinate is the point. -/
theorem final3 (c : Dev nD) : (dats m 0 c).arrAt 3 cfg0.N = quantArr m c :=
  (dats m 0 c).arrAt_eq_of_cover 3 (quantArr m c) (fun t _ => flushed3 m c t) fun i => by
    have hN : cfg0.N = 8 := N_0
    have h0 : (i 0 : Nat) < 8 := (i 0).isLt
    have h1 : (i 1 : Nat) < 256 := (i 1).isLt
    have h2 : (i 2 : Nat) < 1024 := (i 2).isLt
    have ht : (i 0 : Nat) < cfg0.N := by omega
    refine ⟨⟨i 0, ht⟩, flush0_3 _, ?_⟩
    show i ∈ ((View.whole main_v1_0).slice (win0_3.rect ⟨i 0, ht⟩)).set
    rw [View.set_slice_whole, Rect.mem_set_unit]
    intro a
    show win0_3.index ⟨i 0, ht⟩ a * win0_3.size a ≤ (i a : Nat) ∧ (i a : Nat) < win0_3.index ⟨i 0, ht⟩ a * win0_3.size a + win0_3.size a
    rw [idx3]
    match a with
    | ⟨0, _⟩ => show (i 0 : Nat) * 1 ≤ (i 0 : Nat) ∧ (i 0 : Nat) < (i 0 : Nat) * 1 + 1; omega
    | ⟨1, _⟩ => show 0 * 256 ≤ (i 1 : Nat) ∧ (i 1 : Nat) < 0 * 256 + 256; omega
    | ⟨2, _⟩ => show 0 * 1024 ≤ (i 2 : Nat) ∧ (i 2 : Nat) < 0 * 1024 + 1024; omega

theorem final4 (c : Dev nD) : (dats m 0 c).arrAt 4 cfg0.N = quantArr m c :=
  (dats m 0 c).arrAt_eq_of_cover 4 (quantArr m c) (fun t _ => flushed4 m c t) fun i => by
    have hN : cfg0.N = 8 := N_0
    have h0 : (i 0 : Nat) < 8 := (i 0).isLt
    have h1 : (i 1 : Nat) < 256 := (i 1).isLt
    have h2 : (i 2 : Nat) < 1024 := (i 2).isLt
    have ht : (i 0 : Nat) < cfg0.N := by omega
    refine ⟨⟨i 0, ht⟩, flush0_4 _, ?_⟩
    show i ∈ ((View.whole main_v1_1).slice (win0_4.rect ⟨i 0, ht⟩)).set
    rw [View.set_slice_whole, Rect.mem_set_unit]
    intro a
    show win0_4.index ⟨i 0, ht⟩ a * win0_4.size a ≤ (i a : Nat) ∧ (i a : Nat) < win0_4.index ⟨i 0, ht⟩ a * win0_4.size a + win0_4.size a
    rw [idx4]
    match a with
    | ⟨0, _⟩ => show (i 0 : Nat) * 1 ≤ (i 0 : Nat) ∧ (i 0 : Nat) < (i 0 : Nat) * 1 + 1; omega
    | ⟨1, _⟩ => show 0 * 256 ≤ (i 1 : Nat) ∧ (i 1 : Nat) < 0 * 256 + 256; omega
    | ⟨2, _⟩ => show 0 * 1024 ≤ (i 2 : Nat) ∧ (i 2 : Nat) < 0 * 1024 + 1024; omega

theorem final5 (c : Dev nD) : (dats m 0 c).arrAt 5 cfg0.N = codeArr m c :=
  (dats m 0 c).arrAt_eq_of_cover 5 (codeArr m c) (fun t _ => flushed5 m c t) fun i => by
    have hN : cfg0.N = 8 := N_0
    have h0 : (i 0 : Nat) < 8 := (i 0).isLt
    have h1 : (i 1 : Nat) < 1 := (i 1).isLt
    have h2 : (i 2 : Nat) < 1024 := (i 2).isLt
    have ht : (i 0 : Nat) < cfg0.N := by omega
    refine ⟨⟨i 0, ht⟩, flush0_5 _, ?_⟩
    show i ∈ ((View.whole main_v1_2).slice (win0_5.rect ⟨i 0, ht⟩)).set
    rw [View.set_slice_whole, Rect.mem_set_unit]
    intro a
    show win0_5.index ⟨i 0, ht⟩ a * win0_5.size a ≤ (i a : Nat) ∧ (i a : Nat) < win0_5.index ⟨i 0, ht⟩ a * win0_5.size a + win0_5.size a
    rw [idx5]
    match a with
    | ⟨0, _⟩ => show (i 0 : Nat) * 1 ≤ (i 0 : Nat) ∧ (i 0 : Nat) < (i 0 : Nat) * 1 + 1; omega
    | ⟨1, _⟩ => show 0 * 1 ≤ (i 1 : Nat) ∧ (i 1 : Nat) < 0 * 1 + 1; omega
    | ⟨2, _⟩ => show 0 * 1024 ≤ (i 2 : Nat) ∧ (i 2 : Nat) < 0 * 1024 + 1024; omega

theorem idx6 : win0_6.index t0_7 = ![0, 0] := by decide +kernel

theorem final6 (c : Dev nD) :
    (dats m 0 c).arrAt 6 cfg0.N = fun _ => loss (argX m c) (argK m c) (argV m c) :=
  (dats m 0 c).arrAt_eq_of_cover 6 (fun _ => loss (argX m c) (argK m c) (argV m c)) (flushed6 m c) fun i => by
    have h0 : (i 0 : Nat) < 1 := (i 0).isLt
    have h1 : (i 1 : Nat) < 1 := (i 1).isLt
    refine ⟨t0_7, (flush0_6 t0_7).mpr rfl, ?_⟩
    show i ∈ ((View.whole main_v1_3).slice (win0_6.rect t0_7)).set
    rw [View.set_slice_whole, Rect.mem_set_unit]
    intro a
    show win0_6.index t0_7 a * win0_6.size a ≤ (i a : Nat) ∧ (i a : Nat) < win0_6.index t0_7 a * win0_6.size a + win0_6.size a
    rw [idx6]
    match a with
    | ⟨0, _⟩ => show 0 * 1 ≤ (i 0 : Nat) ∧ (i 0 : Nat) < 0 * 1 + 1; omega
    | ⟨1, _⟩ => show 0 * 1 ≤ (i 1 : Nat) ∧ (i 1 : Nat) < 0 * 1 + 1; omega

/-! ## The lines after the grid -/

/-- The array a window writes, as the lines after the grid find it. -/
theorem tail_arr (c : Dev nD) (w : Fin 7) :
    Pipeline.withArrays spec0 c (V0 m c) (fun w => (dats m 0 c).arrAt w cfg0.N) (Proc.devRef .tc (Pipeline.arrRef spec0 w))
      = (dats m 0 c).arrAt w cfg0.N :=
  Pipeline.withArrays_arr spec0 (by decide) c (V0 m c) (fun w => (dats m 0 c).arrAt w cfg0.N) w

/-- The quantised array with its joined axis split. -/
theorem split_quant (c : Dev nD) (h : S8x256x1024.ShapeCasts S8x256x32x32) :
    shapeCast S8x256x32x32 (quantArr m c) h = quantOut (argX m c) (argK m c) (argV m c) := by
  funext i
  have h2 : (i 2).val < 32 := (i 2).isLt
  have h3 : (i 3).val < 32 := (i 3).isLt
  refine shapeCast_apply (quantArr m c) h i (ix3 (i 0) (i 1) ⟨(i 2).val * 32 + (i 3).val, by omega⟩) ?_
  rw [Shape.rowMajor_val_three, Shape.rowMajor_val_four]
  show ((i 0).val * 256 + (i 1).val) * 1024 + ((i 2).val * 32 + (i 3).val) = (((i 0).val * 256 + (i 1).val) * 32 + (i 2).val) * 32 + (i 3).val
  omega

/-- The codes in one row. -/
theorem split_code (c : Dev nD) (h : S8x1x1024.ShapeCasts S8192) :
    shapeCast S8192 (codeArr m c) h = codeOut (argX m c) (argK m c) := by
  funext i
  have h0 : (i 0).val < 8192 := (i 0).isLt
  refine shapeCast_apply (codeArr m c) h i (ix3 ⟨(i 0).val / 1024, by omega⟩ 0 ⟨(i 0).val % 1024, by omega⟩) ?_
  rw [Shape.rowMajor_val_three, Shape.rowMajor_val_one]
  show ((i 0).val / 1024 * 1 + 0) * 1024 + (i 0).val % 1024 = (i 0).val
  omega

theorem tail_v2 (c : Dev nD) : Pipeline.afterTail₀ cfgs (dats m) 0 (V0 m) [hostOps1] c main_v2
    = quantOut (argX m c) (argK m c) (argV m c) := by
  unfold Pipeline.afterTail₀
  rw [← split_quant m c shapeCasts_S8x256x1024_S8x256x32x32, ← final3, ← tail_arr m c 3]
  after_results
  rfl

theorem tail_v3 (c : Dev nD) : Pipeline.afterTail₀ cfgs (dats m) 0 (V0 m) [hostOps1] c main_v3
    = quantOut (argX m c) (argK m c) (argV m c) := by
  unfold Pipeline.afterTail₀
  rw [← split_quant m c shapeCasts_S8x256x1024_S8x256x32x32, ← final4, ← tail_arr m c 4]
  after_results
  rfl

theorem tail_v4 (c : Dev nD) : Pipeline.afterTail₀ cfgs (dats m) 0 (V0 m) [hostOps1] c main_v4
    = codeOut (argX m c) (argK m c) := by
  unfold Pipeline.afterTail₀
  rw [← split_code m c shapeCasts_S8x1x1024_S8192, ← final5, ← tail_arr m c 5]
  after_results
  rfl

theorem tail_v5 (c : Dev nD) : Pipeline.afterTail₀ cfgs (dats m) 0 (V0 m) [hostOps1] c main_v5
    = fun _ => loss (argX m c) (argK m c) (argV m c) := by
  unfold Pipeline.afterTail₀
  have h : StableHlo.after [hostOps1].flatten
      (Pipeline.withArrays spec0 c (V0 m c) (fun w => (dats m 0 c).arrAt w cfg0.N)) (Proc.devRef .tc main_v5)
      = shapeCast S_ (show S1x1.Idx → EReal from (dats m 0 c).arrAt 6 cfg0.N) shapeCasts_S1x1_S_ := by
    rw [← tail_arr m c 6]
    after_results
    rfl
  exact h.trans (congrArg (fun G : S1x1.Idx → EReal => shapeCast S_ G shapeCasts_S1x1_S_) (final6 m c))

/-- The kernel's run: its four results are the quantised images (twice), the codes and the loss, and its arguments end
    unchanged. -/
theorem run : θ_run defs (onTc (τ := τ) (main (F := Ideal))) ⟨m, fun _ => 0, ρ⟩ fun r => ∀ c : Dev nD,
      r.2.mem ((c : Thread nD τ).loc main_v2) = quantOut (argX m c) (argK m c) (argV m c)
      ∧ r.2.mem ((c : Thread nD τ).loc main_v3) = quantOut (argX m c) (argK m c) (argV m c)
      ∧ r.2.mem ((c : Thread nD τ).loc main_v4) = codeOut (argX m c) (argK m c)
      ∧ r.2.mem ((c : Thread nD τ).loc main_v5) = (fun _ => loss (argX m c) (argK m c) (argV m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h.1 c).2 main_v2 (by decide)).trans (tail_v2 m c), ((h.1 c).2 main_v3 (by decide)).trans (tail_v3 m c),
      ((h.1 c).2 main_v4 (by decide)).trans (tail_v4 m c), ((h.1 c).2 main_v5 (by decide)).trans (tail_v5 m c), h.2 c⟩)
    (θ_run_and (run_main m ρ) (unchanged m ρ))

end Cert.KernelIdeal.Value

end
-- ==== Proof.RefRun.lean ====
/-
  The reference's run: its operations in order, the two called functions opened at their calls, and the terms of its
  three arguments that they leave in its results.
-/
module

public import proofs.«01_k».proof.Proof.Gen.ReferenceIdeal
public import Idealize.ShloMosaic.Lib.StableHlo.Run
public import Idealize.ShloMosaic.Lib.Pipeline.Frame
public import Idealize.ShloMosaic.Lib.Tactic
public import Idealize.ShloMosaic.Lib.IdealHost

@[expose] public section

set_option maxRecDepth 16384

noncomputable section

open Idealize.ShloMosaic Idealize.ShloMosaic.StableHlo Idealize.ShloMosaic.TcCoe Idealize.SL.Sem

namespace Cert.ReferenceIdeal.Value

open Cert.ReferenceIdeal Cert.ReferenceIdeal.Gen

/-! ## The terms -/

section Terms

variable (X : FVec Ideal S8x256x32x32 .f32) (K : FVec Ideal S1024x256 .f32) (V : FVec Ideal S256x256 .f32)

/-- The images with the channels last. -/
def lastT : FVec Ideal S8x32x32x256 .f32 :=
  transpose S8x32x32x256 [0, 2, 3, 1] X transposes_S8x256x32x32_S8x32x32x256_0_2_3_1

/-- Every pixel as one row of its channels. -/
def rowsT : FVec Ideal S8192x256 .f32 := shapeCast S8192x256 (lastT X) shapeCasts_S8x32x32x256_S8192x256

/-- The squared norms of the pixels plus those of the codes. -/
def normsT : FVec Ideal S8192x1024 .f32 :=
  addf
    (broadcastInDim S8192x1024 ![0, 1] bcast_S8192x1_S8192x1024_0_1 (broadcastInDim S8192x1 ![0] bcast_S8192_S8192x1_0
      (Host.reduceAdd (mulf (rowsT X) (rowsT X)) (constant S_ .f32 0x00000000#32) reducesTo_S8192x256_S8192_d1 h_S_)))
    (broadcastInDim S8192x1024 ![0, 1] bcast_S1x1024_S8192x1024_0_1 (broadcastInDim S1x1024 ![1] bcast_S1024_S1x1024_1
      (Host.reduceAdd (mulf K K) (constant S_ .f32 0x00000000#32) reducesTo_S1024x256_S1024_d1 h_S_)))

/-- Twice the inner products of the pixels and the codes. -/
def crossT : FVec Ideal S8192x1024 .f32 :=
  mulf (broadcastInDim S8192x1024 ![] bcast_S_S8192x1024 (constant S_ .f32 0x40000000#32))
    (Host.dotGeneral dot_S8192x256_S256x1024_S8192x1024_1_0_0_1_n_n none (rowsT X)
      (transpose S256x1024 [1, 0] K transposes_S1024x256_S256x1024_1_0))

/-- The squared distances. -/
def distT : FVec Ideal S8192x1024 .f32 := subf (normsT X K) (crossT X K)

/-- The positions of the least entries of the rows. -/
def argminT (d : FVec Ideal S8192x1024 .f32) : IVec S8192 32 := fun j =>
  (Host.argReduce reducer_argmin_f32_i32 d (iotaInDim S8192x1024 32 1) (constant S_ .f32 0x7F800000#32) (constantI S_ 32 0#32)
    reducesTo_S8192x1024_S8192_d1 h_S_ j).2

/-- The positions as a column, 1024 added to the negative ones. -/
def columnT (i : IVec S8192 32) : IVec S8192x1 32 :=
  broadcastInDim S8192x1 ![0] bcast_S8192_S8192x1_0
    (select (cmpi .slt i (broadcastInDim S8192 ![] bcast_S_S8192 (constantI S_ 32 0#32)))
      (addi i (broadcastInDim S8192 ![] bcast_S_S8192 (constantI S_ 32 1024#32))) i)

/-- Whether a position of the column is one of a row of the codes. -/
def withinT (i : IVec S8192x1 32) : IVec S8192 1 :=
  Host.reduce IntOp.andi
    (andi (cmpi .sge i (broadcastInDim S8192x1 ![] bcast_S_S8192x1 (constantI S_ 32 0#32)))
      (cmpi .sle i (broadcastInDim S8192x1 ![0, 1] bcast_S1x1_S8192x1_0_1 (broadcastInDim S1x1 ![1] bcast_S1_S1x1_1 (constantI S1 32 1023#32)))))
    (constantI S_ 1 1#1) reducesTo_S8192x1_S8192_d1 h_S_

/-- The rows of the codes at the positions. -/
def takeT (i : IVec S8192 32) : FVec Ideal S8192x256 .f32 :=
  select (broadcastInDim S8192x256 ![0] bcast_S8192_S8192x256_0 (withinT (columnT i)))
    (Host.gather gather_S1024x256_S8192x1_S8192x256_1_0_n_n_0_1_1256 K (columnT i))
    (broadcastInDim S8192x256 ![] bcast_S_S8192x256 (constant S_ .f32 0x7FC00000#32))

/-- The quantised pixels, as images with the channels last. -/
def quantT (i : IVec S8192 32) : FVec Ideal S8x32x32x256 .f32 :=
  shapeCast S8x32x32x256 (Host.dotGeneral dot_S8192x256_S256x256_S8192x256_1_0_0_1_n_n none (takeT K i) V) shapeCasts_S8192x256_S8x32x32x256

/-- Images with the channels second again. -/
def secondT (q : FVec Ideal S8x32x32x256 .f32) : FVec Ideal S8x256x32x32 .f32 :=
  transpose S8x256x32x32 [0, 3, 1, 2] q transposes_S8x32x32x256_S8x256x32x32_0_3_1_2

/-- The mean squared difference of two sets of images. -/
def meanT (q x : FVec Ideal S8x32x32x256 .f32) : FVec Ideal S_ .f32 :=
  Host.divf (Host.reduceAdd (mulf (subf q x) (subf q x)) (constant S_ .f32 0x00000000#32) reducesTo_S8x32x32x256_S_d0_1_2_3 h_S_)
    (constant S_ .f32 0x4A000000#32)

/-- The loss. -/
def lossT (q x : FVec Ideal S8x32x32x256 .f32) : FVec Ideal S_ .f32 :=
  addf (meanT q x) (mulf (constant S_ .f32 0x3E800000#32) (meanT q x))

/-- The images plus the difference of the quantised ones from them. -/
def steT (q x : FVec Ideal S8x32x32x256 .f32) : FVec Ideal S8x32x32x256 .f32 := addf x (subf q x)

end Terms

/-! ## The operations -/

/-- The operations up to the distances. -/
abbrev opsDist : List (HloOp τ sig (Elt Ideal)) :=
  [ unary main_arg0 main_v0 (transpose S8x32x32x256 [0, 2, 3, 1] · transposes_S8x256x32x32_S8x32x32x256_0_2_3_1),
    reshape main_v0 main_v1 (rfl : (.f32 : EltTy) = .f32) shapeCasts_S8x32x32x256_S8192x256,
    binary main_v1 main_v1 main_v2 (mulf (F := Ideal) (φ := .f32)),
    nullary main_cst (constant (F := Ideal) S_ .f32 0x00000000#32),
    binary main_v2 main_cst main_v3 (fun x v => Host.reduceAdd (F := Ideal) (φ := .f32) x v reducesTo_S8192x256_S8192_d1 h_S_),
    unary main_v3 main_v4 (broadcastInDim S8192x1 ![0] bcast_S8192_S8192x1_0),
    binary main_arg1 main_arg1 main_v5 (mulf (F := Ideal) (φ := .f32)),
    nullary main_cst_0 (constant (F := Ideal) S_ .f32 0x00000000#32),
    binary main_v5 main_cst_0 main_v6 (fun x v => Host.reduceAdd (F := Ideal) (φ := .f32) x v reducesTo_S1024x256_S1024_d1 h_S_),
    unary main_v6 main_v7 (broadcastInDim S1x1024 ![1] bcast_S1024_S1x1024_1),
    unary main_v4 main_v8 (broadcastInDim S8192x1024 ![0, 1] bcast_S8192x1_S8192x1024_0_1),
    unary main_v7 main_v9 (broadcastInDim S8192x1024 ![0, 1] bcast_S1x1024_S8192x1024_0_1),
    binary main_v8 main_v9 main_v10 (addf (F := Ideal) (φ := .f32)),
    unary main_arg1 main_v11 (transpose S256x1024 [1, 0] · transposes_S1024x256_S256x1024_1_0),
    binary main_v1 main_v11 main_v12 (fun l r => Host.dotGeneral (F := Ideal) (φ₁ := .f32) (φ₂ := .f32) dot_S8192x256_S256x1024_S8192x1024_1_0_0_1_n_n none l r),
    nullary main_cst_1 (constant (F := Ideal) S_ .f32 0x40000000#32),
    unary main_cst_1 main_v13 (broadcastInDim S8192x1024 ![] bcast_S_S8192x1024),
    binary main_v13 main_v12 main_v14 (mulf (F := Ideal) (φ := .f32)),
    binary main_v10 main_v14 main_v15 (subf (F := Ideal) (φ := .f32)) ]

/-- The operations of the called least-position function. -/
abbrev opsArgmin : List (HloOp τ sig (Elt Ideal)) :=
  [ TRef.nullary main_call0.v0 (iotaInDim S8192x1024 32 1),
    TRef.nullary main_call0.cst (constant (F := Ideal) S_ .f32 0x7F800000#32),
    TRef.nullary main_call0.c (constantI S_ 32 0#32),
    TRef.quaternary (.of main_v15) main_call0.v0 main_call0.cst main_call0.c main_call0.v1_0 (fun x y u v j => (Host.argReduce (F := Ideal) reducer_argmin_f32_i32 x y u v reducesTo_S8192x1024_S8192_d1 h_S_ j).1),
    TRef.quaternary (.of main_v15) main_call0.v0 main_call0.cst main_call0.c main_call0.v1_1 (fun x y u v j => (Host.argReduce (F := Ideal) reducer_argmin_f32_i32 x y u v reducesTo_S8192x1024_S8192_d1 h_S_ j).2) ]

/-- The operations of the called row-taking function. -/
abbrev opsTake : List (HloOp τ sig (Elt Ideal)) :=
  [ TRef.nullary main_call1.c (constantI S_ 32 0#32),
    TRef.unary main_call1.c main_call1.v0 (broadcastInDim S8192 ![] bcast_S_S8192),
    TRef.binary (.of main_v16) main_call1.v0 main_call1.v1 (cmpi .slt),
    TRef.nullary main_call1.c_0 (constantI S_ 32 1024#32),
    TRef.unary main_call1.c_0 main_call1.v2 (broadcastInDim S8192 ![] bcast_S_S8192),
    TRef.binary (.of main_v16) main_call1.v2 main_call1.v3 addi,
    TRef.ternary main_call1.v1 main_call1.v3 (.of main_v16) main_call1.call0.v0 select,
    TRef.unary main_call1.call0.v0 main_call1.v5 (broadcastInDim S8192x1 ![0] bcast_S8192_S8192x1_0),
    TRef.nullary main_call1.c_1 (constantI S1 32 1023#32),
    TRef.nullary main_call1.c_2 (constantI S_ 32 0#32),
    TRef.unary main_call1.c_2 main_call1.v6 (broadcastInDim S8192x1 ![] bcast_S_S8192x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S8192x1 ![0, 1] bcast_S1x1_S8192x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S8192x1_S8192_d1 h_S_),
    TRef.binary (.of main_arg1) main_call1.v5 main_call1.v13 (fun x i => Host.gather gather_S1024x256_S8192x1_S8192x256_1_0_n_n_0_1_1256 x i),
    TRef.unary main_call1.v12 main_call1.v14 (broadcastInDim S8192x256 ![0] bcast_S8192_S8192x256_0),
    TRef.nullary main_call1.cst (constant (F := Ideal) S_ .f32 0x7FC00000#32),
    TRef.unary main_call1.cst main_call1.v15 (broadcastInDim S8192x256 ![] bcast_S_S8192x256),
    TRef.ternary main_call1.v14 main_call1.v13 main_call1.v15 main_call1.v16 select ]

/-- The operations after the rows are taken. -/
abbrev opsOut : List (HloOp τ sig (Elt Ideal)) :=
  [ binary main_v17 main_arg2 main_v18 (fun l r => Host.dotGeneral (F := Ideal) (φ₁ := .f32) (φ₂ := .f32) dot_S8192x256_S256x256_S8192x256_1_0_0_1_n_n none l r),
    reshape main_v18 main_v19 (rfl : (.f32 : EltTy) = .f32) shapeCasts_S8192x256_S8x32x32x256,
    unary main_v19 main_v20 (transpose S8x256x32x32 [0, 3, 1, 2] · transposes_S8x32x32x256_S8x256x32x32_0_3_1_2),
    binary main_v19 main_v0 main_v21 (subf (F := Ideal) (φ := .f32)),
    binary main_v21 main_v21 main_v22 (mulf (F := Ideal) (φ := .f32)),
    nullary main_cst_2 (constant (F := Ideal) S_ .f32 0x00000000#32),
    binary main_v22 main_cst_2 main_v23 (fun x v => Host.reduceAdd (F := Ideal) (φ := .f32) x v reducesTo_S8x32x32x256_S_d0_1_2_3 h_S_),
    nullary main_cst_3 (constant (F := Ideal) S_ .f32 0x4A000000#32),
    binary main_v23 main_cst_3 main_v24 (Host.divf (F := Ideal) (φ := .f32)),
    binary main_v19 main_v0 main_v25 (subf (F := Ideal) (φ := .f32)),
    binary main_v25 main_v25 main_v26 (mulf (F := Ideal) (φ := .f32)),
    nullary main_cst_4 (constant (F := Ideal) S_ .f32 0x00000000#32),
    binary main_v26 main_cst_4 main_v27 (fun x v => Host.reduceAdd (F := Ideal) (φ := .f32) x v reducesTo_S8x32x32x256_S_d0_1_2_3 h_S_),
    nullary main_cst_5 (constant (F := Ideal) S_ .f32 0x4A000000#32),
    binary main_v27 main_cst_5 main_v28 (Host.divf (F := Ideal) (φ := .f32)),
    nullary main_cst_6 (constant (F := Ideal) S_ .f32 0x3E800000#32),
    binary main_cst_6 main_v28 main_v29 (mulf (F := Ideal) (φ := .f32)),
    binary main_v24 main_v29 main_v30 (addf (F := Ideal) (φ := .f32)),
    binary main_v19 main_v0 main_v31 (subf (F := Ideal) (φ := .f32)),
    binary main_v0 main_v31 main_v32 (addf (F := Ideal) (φ := .f32)),
    unary main_v32 main_v33 (transpose S8x256x32x32 [0, 3, 1, 2] · transposes_S8x32x32x256_S8x256x32x32_0_3_1_2) ]

/-- All of the reference's operations in order. -/
abbrev ops : List (HloOp τ sig (Elt Ideal)) := opsDist ++ opsArgmin ++ opsTake ++ opsOut

/-- The reference is that straight line. -/
theorem main_eq (c : Dev nD) : main (F := Ideal) c = seq ops := by
  simp only [main, fn_argmin.body, fn_where.body, fn_take.body, ops, opsDist, opsArgmin, opsTake, opsOut, List.cons_append, List.nil_append,
    seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- Every operation reads and writes the core's own buffers. -/
theorem ops_sub : ops.Forall fun op => op.bufs ⊆ tcRefs τ sig := by
  simp only [ops, opsDist, opsArgmin, opsTake, opsOut, List.cons_append, List.nil_append, List.forall_cons]
  simp

/-! ## What each part leaves -/

theorem dist_at (W : Valuation τ sig (Elt Ideal)) :
    after opsDist W (main_v15 : DevRef τ sig) = distT (W (main_arg0 : DevRef τ sig)) (W (main_arg1 : DevRef τ sig)) := by
  after_results_simp
  rfl

theorem last_at (W : Valuation τ sig (Elt Ideal)) :
    after opsDist W (main_v0 : DevRef τ sig) = lastT (W (main_arg0 : DevRef τ sig)) := by
  after_results_simp
  rfl

theorem argmin_at (W : Valuation τ sig (Elt Ideal)) :
    after opsArgmin W (main_v16 : DevRef τ sig) = argminT (W (main_v15 : DevRef τ sig)) := by
  after_results_simp
  rfl

theorem take_at (W : Valuation τ sig (Elt Ideal)) :
    after opsTake W (main_v17 : DevRef τ sig) = takeT (W (main_arg1 : DevRef τ sig)) (W (main_v16 : DevRef τ sig)) := by
  after_results_simp
  rfl

theorem ste_at (W : Valuation τ sig (Elt Ideal)) :
    after opsOut W (main_v33 : DevRef τ sig)
      = secondT (steT (shapeCast S8x32x32x256
          (Host.dotGeneral (F := Ideal) (φ₁ := .f32) (φ₂ := .f32) dot_S8192x256_S256x256_S8192x256_1_0_0_1_n_n none
            (W (main_v17 : DevRef τ sig)) (W (main_arg2 : DevRef τ sig)))
          shapeCasts_S8192x256_S8x32x32x256) (W (main_v0 : DevRef τ sig))) := by
  after_results_simp
  rfl

theorem grad_at (W : Valuation τ sig (Elt Ideal)) :
    after opsOut W (main_v20 : DevRef τ sig)
      = secondT (shapeCast S8x32x32x256
          (Host.dotGeneral (F := Ideal) (φ₁ := .f32) (φ₂ := .f32) dot_S8192x256_S256x256_S8192x256_1_0_0_1_n_n none
            (W (main_v17 : DevRef τ sig)) (W (main_arg2 : DevRef τ sig)))
          shapeCasts_S8192x256_S8x32x32x256) := by
  after_results_simp
  rfl

theorem loss_at (W : Valuation τ sig (Elt Ideal)) :
    after opsOut W (main_v30 : DevRef τ sig)
      = lossT (shapeCast S8x32x32x256
          (Host.dotGeneral (F := Ideal) (φ₁ := .f32) (φ₂ := .f32) dot_S8192x256_S256x256_S8192x256_1_0_0_1_n_n none
            (W (main_v17 : DevRef τ sig)) (W (main_arg2 : DevRef τ sig)))
          shapeCasts_S8192x256_S8x32x32x256) (W (main_v0 : DevRef τ sig)) := by
  after_results_simp
  rfl

theorem out_keeps16 (W : Valuation τ sig (Elt Ideal)) :
    after opsOut W (main_v16 : DevRef τ sig) = W (main_v16 : DevRef τ sig) := by after_results_simp
theorem take_keeps16 (W : Valuation τ sig (Elt Ideal)) :
    after opsTake W (main_v16 : DevRef τ sig) = W (main_v16 : DevRef τ sig) := by after_results_simp
theorem argmin_keeps0 (W : Valuation τ sig (Elt Ideal)) :
    after opsArgmin W (main_v0 : DevRef τ sig) = W (main_v0 : DevRef τ sig) := by after_results_simp
theorem argmin_keepsK (W : Valuation τ sig (Elt Ideal)) :
    after opsArgmin W (main_arg1 : DevRef τ sig) = W (main_arg1 : DevRef τ sig) := by after_results_simp
theorem argmin_keepsV (W : Valuation τ sig (Elt Ideal)) :
    after opsArgmin W (main_arg2 : DevRef τ sig) = W (main_arg2 : DevRef τ sig) := by after_results_simp
theorem take_keeps0 (W : Valuation τ sig (Elt Ideal)) :
    after opsTake W (main_v0 : DevRef τ sig) = W (main_v0 : DevRef τ sig) := by after_results_simp
theorem take_keepsV (W : Valuation τ sig (Elt Ideal)) :
    after opsTake W (main_arg2 : DevRef τ sig) = W (main_arg2 : DevRef τ sig) := by after_results_simp
theorem dist_keepsK (W : Valuation τ sig (Elt Ideal)) :
    after opsDist W (main_arg1 : DevRef τ sig) = W (main_arg1 : DevRef τ sig) := by after_results_simp
theorem dist_keepsV (W : Valuation τ sig (Elt Ideal)) :
    after opsDist W (main_arg2 : DevRef τ sig) = W (main_arg2 : DevRef τ sig) := by after_results_simp
theorem keeps0 (W : Valuation τ sig (Elt Ideal)) : after ops W (main_arg0 : DevRef τ sig) = W (main_arg0 : DevRef τ sig) := by
  simp only [ops, after_append]; after_results_simp
theorem keeps1 (W : Valuation τ sig (Elt Ideal)) : after ops W (main_arg1 : DevRef τ sig) = W (main_arg1 : DevRef τ sig) := by
  simp only [ops, after_append]; after_results_simp
theorem keeps2 (W : Valuation τ sig (Elt Ideal)) : after ops W (main_arg2 : DevRef τ sig) = W (main_arg2 : DevRef τ sig) := by
  simp only [ops, after_append]; after_results_simp

/-! ## The run -/

section Run

variable (m : (ℓ : Loc nD τ sig) → Buf (Elt Ideal) ℓ) (ρ : Dev nD → PrngReg)

/-- The three arguments a device is launched with. -/
abbrev argX (c : Dev nD) : FVec Ideal S8x256x32x32 .f32 := m (((↑c : Thread nD τ)).loc main_arg0)
abbrev argK (c : Dev nD) : FVec Ideal S1024x256 .f32 := m (((↑c : Thread nD τ)).loc main_arg1)
abbrev argV (c : Dev nD) : FVec Ideal S256x256 .f32 := m (((↑c : Thread nD τ)).loc main_arg2)

/-- The codes of a device's pixels, and its quantised pixels. -/
def codesOf (c : Dev nD) : IVec S8192 32 := argminT (distT (argX m c) (argK m c))
def quantOf (c : Dev nD) : FVec Ideal S8x32x32x256 .f32 := quantT (argK m c) (argV m c) (codesOf m c)

/-- Every weakly fair execution of the reference ends, with the four terms in its results and its arguments unchanged. -/
theorem run :
    θ_run defs (onTc (τ := τ) (main (F := Ideal))) ⟨m, fun _ => 0, ρ⟩ fun r => ∀ c : Dev nD,
      r.2.mem (((↑c : Thread nD τ)).loc main_v33) = secondT (steT (quantOf m c) (lastT (argX m c))) ∧
      r.2.mem (((↑c : Thread nD τ)).loc main_v20) = secondT (quantOf m c) ∧
      r.2.mem (((↑c : Thread nD τ)).loc main_v16) = codesOf m c ∧
      r.2.mem (((↑c : Thread nD τ)).loc main_v30) = lossT (quantOf m c) (lastT (argX m c)) ∧
      r.2.mem (((↑c : Thread nD τ)).loc main_arg0) = argX m c ∧
      r.2.mem (((↑c : Thread nD τ)).loc main_arg1) = argK m c ∧
      r.2.mem (((↑c : Thread nD τ)).loc main_arg2) = argV m c := by
  refine (θ_run defs _ _).mono (fun r h c => ?_)
    (run_seq scopedRefs_eq scopedSems_eq defs main (fun _ => ops) main_eq (fun _ => ops_sub) m ρ)
  have hcodes : after opsArgmin (after opsDist (launchContents m c)) (main_v16 : DevRef τ sig) = codesOf m c := by
    rw [argmin_at, dist_at]; rfl
  have hv17 : after opsTake (after opsArgmin (after opsDist (launchContents m c))) (main_v17 : DevRef τ sig) = takeT (argK m c) (codesOf m c) := by
    rw [take_at, hcodes, argmin_keepsK, dist_keepsK]
  have hV : after opsTake (after opsArgmin (after opsDist (launchContents m c))) (main_arg2 : DevRef τ sig) = argV m c := by
    rw [take_keepsV, argmin_keepsV, dist_keepsV]
  have h0 : after opsTake (after opsArgmin (after opsDist (launchContents m c))) (main_v0 : DevRef τ sig) = lastT (argX m c) := by
    rw [take_keeps0, argmin_keeps0, last_at]
  refine ⟨(h c main_v33).trans ?_, (h c main_v20).trans ?_, (h c main_v16).trans ?_, (h c main_v30).trans ?_,
    (h c main_arg0).trans (keeps0 _), (h c main_arg1).trans (keeps1 _), (h c main_arg2).trans (keeps2 _)⟩
  all_goals simp only [ops, after_append]
  · rw [ste_at, hv17, hV, h0]; rfl
  · rw [grad_at, hv17, hV]; rfl
  · rw [out_keeps16, take_keeps16, hcodes]
  · rw [loss_at, hv17, hV, h0]; rfl

end Run

end Cert.ReferenceIdeal.Value

end
-- ==== Proof.RefValue.lean ====
/-
  The reference's terms read at an index: its distances, the codes it chooses, the quantised pixels and the loss are
  those of the quantiser's mathematics.
-/
module

public import proofs.«01_k».proof.Proof.Spec
public import proofs.«01_k».proof.Proof.RefRun
public import Idealize.ShloMosaic.Lib.Routing.Ops

@[expose] public section

set_option maxRecDepth 16384

noncomputable section

open scoped BigOperators
open Idealize.ShloMosaic Idealize.ShloMosaic.TcCoe Idealize.SL.Sem

namespace Cert.ReferenceIdeal.Value

open Cert.ReferenceIdeal Cert.ReferenceIdeal.Gen Cert.Vq

variable (X : FVec Ideal S8x256x32x32 .f32) (K : FVec Ideal S1024x256 .f32) (V : FVec Ideal S256x256 .f32)

/-- The image a row belongs to, and the pixel's position in it. -/
def img (n : Fin 8192) : Fin 8 := ⟨n.val / 1024, by omega⟩
def pos (n : Fin 8192) : Fin 1024 := ⟨n.val % 1024, by omega⟩

/-! ## The distances -/

/-- The images with the channels last, at an index. -/
theorem last_apply (b : Fin 8) (y x : Fin 32) (c : Fin 256) : lastT X (ix4 b y x c) = X (ix4 b c y x) := by
  pointwise [lastT]

/-- A row of the pixels, at a channel. -/
theorem rows_apply (n : Fin 8192) (c : Fin 256) : rowsT X (ix2 n c) = pix X (img n) c (pos n) := by
  unfold rowsT
  rw [shapeCast_apply _ _ _ (ix4 (img n) (⟨(pos n).val / 32, by omega⟩ : Fin 32) (⟨(pos n).val % 32, by omega⟩ : Fin 32) c) ?_]
  · exact last_apply X _ _ _ _
  · rw [Shape.rowMajor_val_four, Shape.rowMajor_val_two]
    show (((n.val / 1024) * 32 + (n.val % 1024) / 32) * 32 + (n.val % 1024) % 32) * 256 + c.val = n.val * 256 + c.val
    omega

/-- The 32-bit pattern of two. -/
theorem ofBits_two : Ideal.ofBits .f32 0x40000000#32 = 2 := by
  simp [Ideal.ofBits, Ideal.ieee, -EReal.coe_mul]; norm_num
  rfl

/-- The sum of the norms, at a row and a code. -/
theorem norms_apply (n : Fin 8192) (k : Fin 1024) :
    normsT X K (ix2 n k) = ∑ c : Fin 256, rowsT X (ix2 n c) * rowsT X (ix2 n c) + ∑ c : Fin 256, K (ix2 k c) * K (ix2 k c) := by
  pointwise [normsT]

/-- Twice the inner product, at a row and a code. -/
theorem cross_apply (n : Fin 8192) (k : Fin 1024) :
    crossT X K (ix2 n k) = 2 * ∑ c : Fin 256, rowsT X (ix2 n c) * K (ix2 k c) := by
  pointwise [crossT]
  rw [ofBits_two]

/-- The distance of a row to a code. -/
theorem dist_apply (n : Fin 8192) (k : Fin 1024) : distT X K (ix2 n k) = Vq.dist X K (img n) (pos n) k := by
  show normsT X K (ix2 n k) - crossT X K (ix2 n k) = _
  rw [norms_apply, cross_apply]
  simp only [rows_apply]
  rfl

/-! ## The codes -/

/-- The comparison the reference folds with returns the lexicographically lesser pair. -/
theorem reducer_lexMin : IsLexMin (reducer_argmin_f32_i32 (F := Ideal)) := by
  rintro ⟨a, i⟩ ⟨b, j⟩
  simp only [reducer_argmin_f32_i32, Ideal.cmpf_def, Ideal.cmp, IntOp.cmpi, IntOp.ori, IntOp.andi, Scalar.select, BitVec.slt, lexLe]
  have hone : ∀ p : Bool, (BitVec.ofBool p = 1) = (p = true) := fun p => by cases p <;> simp <;> decide
  simp only [← BitVec.ofBool_or_ofBool, BitVec.ofBool_and_ofBool, BitVec.ofBool_or_ofBool, hone, Bool.or_eq_true, Bool.and_eq_true,
    decide_eq_true_eq, ne_eq, not_true_eq_false, or_false]
  rcases lt_trichotomy a b with h | h | h
  · simp [h]
  · subst h
    rcases lt_or_ge i.toInt j.toInt with h' | h' <;> simp [h', le_of_lt, not_lt.mpr, *]
  · simp [h, h.not_gt, h.ne']

/-- The pairs the reduction of a row folds over are those of the row's entries. -/
theorem mem_fiber {a b : ℕ} {α β : Type} (x : (⟨2, ![a, b]⟩ : Shape).Idx → α) (y : (⟨2, ![a, b]⟩ : Shape).Idx → β)
    (h : Shape.ReducesTo ⟨2, ![a, b]⟩ [1] ⟨1, ![a]⟩) (n : Fin a) (p : α × β) :
    p ∈ Host.argReduceFiber x y h (ix1 n) ↔ ∃ k : Fin b, p = (x (ix2 n k), y (ix2 n k)) := by
  have hdrop : ∀ (n' : Fin a) (k : Fin b), h.drop (ix2 n' k) = ix1 n' := fun n' k => funext fun z => Fin.ext (by
    match z with | ⟨0, _⟩ => rfl)
  simp only [Host.argReduceFiber, List.mem_map, List.mem_filter, List.mem_finRange, true_and, decide_eq_true_eq]
  constructor
  · rintro ⟨q, hq, rfl⟩
    revert hq
    generalize (⟨2, ![a, b]⟩ : Shape).rowMajor.symm q = e
    intro hq
    have h0 : e 0 = n := congrFun ((hdrop (e 0) (e 1)).symm.trans ((congrArg h.drop (eq_ix2 e).symm).trans hq)) 0
    have he : e = ix2 n (e 1) := (eq_ix2 e).trans (congrArg (ix2 · (e 1)) h0)
    exact ⟨e 1, Prod.ext (congrArg x he) (congrArg y he)⟩
  · rintro ⟨k, rfl⟩
    exact ⟨(⟨2, ![a, b]⟩ : Shape).rowMajor (ix2 n k), by rw [Equiv.symm_apply_apply]; exact hdrop n k, by rw [Equiv.symm_apply_apply]⟩

/-- The reduction of a row, at its position: the first least entry of the row. -/
theorem argReduce_apply (d : FVec Ideal S8192x1024 .f32) (n : Fin 8192) :
    (Host.argReduce reducer_argmin_f32_i32 d (iotaInDim S8192x1024 32 1) (constant S_ .f32 0x7F800000#32) (constantI S_ 32 0#32)
      reducesTo_S8192x1024_S8192_d1 h_S_ (ix1 n)).2 = BitVec.ofNat 32 (firstMin fun k => d (ix2 n k)).val := by
  rw [Ideal.argReduce_eq_reduce2, Host.reduce2_eq_foldl_fiber]
  have hi : (constant (F := Ideal) S_ .f32 0x7F800000#32 (Shape.Idx.first h_S_), constantI S_ 32 0#32 (Shape.Idx.first h_S_))
      = ((⊤ : EReal), 0#32) := Prod.ext (by show Ideal.ofBits .f32 0x7F800000#32 = ⊤; simp [Ideal.ofBits, Ideal.ieee]) rfl
  rw [hi]
  exact foldl_eq_firstMin reducer_lexMin _ _ fun p => mem_fiber d (iotaInDim S8192x1024 32 1) reducesTo_S8192x1024_S8192_d1 n p

/-- So is any vector that holds these positions. -/
theorem argmin_of_eq (d : FVec Ideal S8192x1024 .f32) (a : IVec S8192 32)
    (ha : a = fun j => (Host.argReduce reducer_argmin_f32_i32 d (iotaInDim S8192x1024 32 1) (constant S_ .f32 0x7F800000#32)
      (constantI S_ 32 0#32) reducesTo_S8192x1024_S8192_d1 h_S_ j).2) (n : Fin 8192) :
    a (ix1 n) = BitVec.ofNat 32 (firstMin fun k => d (ix2 n k)).val :=
  (congrFun ha (ix1 n)).trans (argReduce_apply d n)

/-- The position of the least entry of a row. -/
theorem argmin_apply (d : FVec Ideal S8192x1024 .f32) (n : Fin 8192) :
    argminT d (ix1 n) = BitVec.ofNat 32 (firstMin fun k => d (ix2 n k)).val := argmin_of_eq d (argminT d) rfl n

/-- A position in range stays as it is in the column. -/
theorem column_apply (i : IVec S8192 32) (n : Fin 8192) (k : Fin 1024) (h : i (ix1 n) = BitVec.ofNat 32 k.val) :
    columnT i (ix2 n (0 : Fin 1)) = BitVec.ofNat 32 k.val := by
  pointwise [columnT]
  rw [h]
  have hs : IntOp.cmpi .slt (BitVec.ofNat 32 k.val) 0#32 = 0#1 := by
    simp only [IntOp.cmpi, BitVec.slt, toInt_ofNat_of_lt (show k.val < 2048 by omega), BitVec.toInt_zero]
    rw [decide_eq_false (by omega)]; rfl
  rw [hs]; rfl

/-- A position in range is within the rows. -/
theorem within_apply (i : IVec S8192x1 32) (n : Fin 8192) (k : Fin 1024) (h : i (ix2 n (0 : Fin 1)) = BitVec.ofNat 32 k.val) :
    withinT i (ix1 n) = 1#1 := by
  unfold withinT
  have hr : Shape.Reduces S8192x1 [1] S8192 := by decide
  have hone : ∀ (e : BitVec 1) (f : Fin 1 → BitVec 1), (Finset.univ : Finset (Fin 1)).fold IntOp.andi e f = IntOp.andi (f 0) e :=
    fun e f => by rw [Finset.univ_unique, Finset.fold_singleton]; rfl
  rw [Host.reduce_eq_fold_single IntOp.andi _ _ _ hr _ _]
  refine (hone _ _).trans ?_
  have hl : hr.lift (ix1 n) (0 : Fin 1) = ix2 n (0 : Fin 1) := eq_ix2 _
  refine (congrArg (fun j => IntOp.andi (andi (cmpi .sge i (broadcastInDim S8192x1 ![] bcast_S_S8192x1 (constantI S_ 32 0#32)))
    (cmpi .sle i (broadcastInDim S8192x1 ![0, 1] bcast_S1x1_S8192x1_0_1 (broadcastInDim S1x1 ![1] bcast_S1_S1x1_1 (constantI S1 32 1023#32)))) j)
      1#1) hl).trans ?_
  pointwise []
  rw [h]
  have hs : IntOp.cmpi .sge (BitVec.ofNat 32 k.val) 0#32 = 1#1 := by
    simp only [IntOp.cmpi, BitVec.sle, toInt_ofNat_of_lt (show k.val < 2048 by omega), BitVec.toInt_zero]
    rw [decide_eq_true (by omega)]; rfl
  have ht : IntOp.cmpi .sle (BitVec.ofNat 32 k.val) 1023#32 = 1#1 := by
    simp only [IntOp.cmpi, BitVec.sle, toInt_ofNat_of_lt (show k.val < 2048 by omega)]
    rw [decide_eq_true (by have : (1023#32 : BitVec 32).toInt = 1023 := by decide
                           omega)]; rfl
  rw [hs, ht]; rfl

/-- The row taken at a position in range. -/
theorem take_apply (i : IVec S8192 32) (n : Fin 8192) (k : Fin 1024) (h : i (ix1 n) = BitVec.ofNat 32 k.val) (j : Fin 256) :
    takeT K i (ix2 n j) = K (ix2 k j) := by
  have hc := column_apply i n k h
  have hw := within_apply _ n k hc
  pointwise [takeT]
  rw [hw]
  exact Routing.gather_row gather_S1024x256_S8192x1_S8192x256_1_0_n_n_0_1_1256 rfl rfl rfl rfl rfl K (columnT i) n j k hc (by norm_num)

/-! ## The results -/
/-- The code of a row. -/
theorem codes_apply (n : Fin 8192) :
    argminT (distT X K) (ix1 n) = BitVec.ofNat 32 (code X K (img n) (pos n)).val := by
  rw [argmin_apply]
  simp only [dist_apply]
  rfl

/-- The codes of all rows. -/
theorem codes_eq : argminT (distT X K) = codeOut X K := by
  funext i
  obtain ⟨n, rfl⟩ : ∃ n : Fin 8192, i = ix1 n := ⟨i 0, eq_ix1 i⟩
  exact codes_apply X K n

/-- The pixel at a row and a column of its image. -/
def at2 (y x : Fin 32) : Fin 1024 := ⟨y.val * 32 + x.val, by omega⟩

/-- The quantised pixel at an index of the images. -/
theorem quant_apply (b : Fin 8) (y x : Fin 32) (c : Fin 256) :
    quantT K V (argminT (distT X K)) (ix4 b y x c) = quant X K V b c (at2 y x) := by
  have hn : b.val * 1024 + (y.val * 32 + x.val) < 8192 := by omega
  have hi : img ⟨_, hn⟩ = b := Fin.ext (by show (b.val * 1024 + (y.val * 32 + x.val)) / 1024 = b.val; omega)
  have hp : pos ⟨_, hn⟩ = at2 y x := Fin.ext (by show (b.val * 1024 + (y.val * 32 + x.val)) % 1024 = y.val * 32 + x.val; omega)
  unfold quantT
  rw [shapeCast_apply _ _ _ (ix2 (⟨_, hn⟩ : Fin 8192) c) ?_]
  · have hc := codes_apply X K ⟨_, hn⟩
    rw [hi, hp] at hc
    generalize argminT (distT X K) = i at hc
    pointwise []
    exact Finset.sum_congr rfl fun j _ => congrArg (· * V (ix2 j c)) (take_apply K i ⟨_, hn⟩ _ hc j)
  · rw [Shape.rowMajor_val_four, Shape.rowMajor_val_two]
    show (b.val * 1024 + (y.val * 32 + x.val)) * 256 + c.val = ((b.val * 32 + y.val) * 32 + x.val) * 256 + c.val
    omega

/-- The quantised images, the channels second again. -/
theorem second_quant_eq : secondT (quantT K V (argminT (distT X K))) = quantOut X K V := by
  funext i
  obtain ⟨b, c, y, x, rfl⟩ : ∃ (b : Fin 8) (c : Fin 256) (y x : Fin 32), i = ix4 b c y x := ⟨i 0, i 1, i 2, i 3, eq_ix4 i⟩
  refine Eq.trans ?_ (quant_apply X K V b y x c)
  pointwise [secondT]

/-- At an entry of the images that is a real number, the image plus the difference of the quantised image from it is the
    quantised image. -/
theorem second_ste_apply (i : S8x256x32x32.Idx) (hb : X i ≠ ⊥) (ht : X i ≠ ⊤) :
    secondT (steT (quantT K V (argminT (distT X K))) (lastT X)) i = quantOut X K V i := by
  obtain ⟨b, c, y, x, rfl⟩ : ∃ (b : Fin 8) (c : Fin 256) (y x : Fin 32), i = ix4 b c y x := ⟨i 0, i 1, i 2, i 3, eq_ix4 i⟩
  refine Eq.trans ?_ (quant_apply X K V b y x c)
  refine Eq.trans ?_ (add_sub_cancel_of_finite hb ht)
  rw [← last_apply X b y x c]
  pointwise [secondT, steT]

/-! ## The loss -/

/-- A sum over the pixels of an image goes over its rows and columns. -/
theorem sum_pixels (g : Fin 1024 → EReal) : ∑ p, g p = ∑ y : Fin 32, ∑ x : Fin 32, g (at2 y x) := by
  rw [← Equiv.sum_comp (finProdFinEquiv (m := 32) (n := 32)) g, Fintype.sum_prod_type]
  refine Finset.sum_congr rfl fun y _ => Finset.sum_congr rfl fun x _ => congrArg g (Fin.ext ?_)
  show x.val + 32 * y.val = y.val * 32 + x.val
  omega

/-- The mean squared error. -/
theorem mean_apply : meanT (quantT K V (argminT (distT X K))) (lastT X) ix0
    = Ideal.div (∑ b, imgErr X K V b) (Ideal.ofBits .f32 0x4A000000#32) := by
  unfold meanT
  show Ideal.div (Ideal.hostReduceAdd _ _ (constant (F := Ideal) S_ .f32 0x00000000#32 (Shape.Idx.first h_S_)) ix0) _ = _
  rw [Ideal.hostReduceAdd_total _ (fun b => b.elim0)]
  refine congrArg₂ Ideal.div ?_ rfl
  rw [show (constant (F := Ideal) S_ .f32 0x00000000#32 (Shape.Idx.first h_S_) : EReal) = 0 from Ideal.ofBits_zero_f32, zero_add]
  refine (sum_idx4 (n0 := 8) (n1 := 32) (n2 := 32) (n3 := 256) _).trans (Finset.sum_congr rfl fun b _ => ?_)
  have hx : ∀ y x c, mulf (subf (quantT K V (argminT (distT X K))) (lastT X)) (subf (quantT K V (argminT (distT X K))) (lastT X)) (ix4 b y x c)
      = sqErr X K V b c (at2 y x) := fun y x c => by
    have hl : lastT X (ix4 b y x c) = pix X b c (at2 y x) := by
      rw [last_apply]
      refine congrArg X (congrArg₂ (ix4 b c) (Fin.ext ?_) (Fin.ext ?_))
      · show y.val = (y.val * 32 + x.val) / 32; omega
      · show x.val = (y.val * 32 + x.val) % 32; omega
    show (quantT K V (argminT (distT X K)) (ix4 b y x c) - lastT X (ix4 b y x c))
      * (quantT K V (argminT (distT X K)) (ix4 b y x c) - lastT X (ix4 b y x c)) = _
    rw [hl, quant_apply]; rfl
  simp only [hx, imgErr, sum_pixels]
  exact (Finset.sum_congr rfl fun y _ => Finset.sum_comm).trans Finset.sum_comm

/-- The loss. -/
theorem loss_eq : lossT (quantT K V (argminT (distT X K))) (lastT X) = fun _ => loss X K V := by
  funext i
  obtain rfl : i = ix0 := funext fun a => a.elim0
  show meanT _ _ ix0 + Ideal.ofBits .f32 0x3E800000#32 * meanT _ _ ix0 = _
  rw [mean_apply]
  rfl

/-! ## The run, read -/

/-- Every weakly fair execution of the reference ends with the quantised images in its second result, the codes in its
    third and the loss in its fourth, with the quantised images in its first wherever the images are real numbers, and with its
    arguments unchanged. -/
theorem run_values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (∀ i : S8x256x32x32.Idx, argX m c i ≠ ⊥ → argX m c i ≠ ⊤ →
        r.2.mem ((c : Thread nD τ).loc main_v33) i = quantOut (argX m c) (argK m c) (argV m c) i)
      ∧ r.2.mem ((c : Thread nD τ).loc main_v20) = quantOut (argX m c) (argK m c) (argV m c)
      ∧ r.2.mem ((c : Thread nD τ).loc main_v16) = codeOut (argX m c) (argK m c)
      ∧ r.2.mem ((c : Thread nD τ).loc main_v30) = (fun _ => loss (argX m c) (argK m c) (argV m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨fun i hb ht => (congrFun (h c).1 i).trans (second_ste_apply (argX m c) (argK m c) (argV m c) i hb ht),
      (h c).2.1.trans (second_quant_eq (argX m c) (argK m c) (argV m c)), (h c).2.2.1.trans (codes_eq (argX m c) (argK m c)),
      (h c).2.2.2.1.trans (loss_eq (argX m c) (argK m c) (argV m c)), (h c).2.2.2.2⟩) (run m ρ)

end Cert.ReferenceIdeal.Value

end
-- ==== Proof.lean ====
/-
  The proof of `Cert.Claim`. The frames of the two kernels are the generated ones; the frame of the reference and both
  value claims come from the runs read in the modules under Proof/: the kernel's (KernelRun) and the reference's
  (RefValue) end in the same quantities of the arguments (Spec), except that the reference's straight-through result is the
  quantised image only where the image is a real number.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelRun
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.Vq

/-- The side conditions of the precondition's function. -/
instance preFacts : Cert.Pre_x_finite.Facts := ⟨by decide⟩

/-- The side conditions of the mask's function. -/
instance onFacts : Cert.On_where_x_finite.Facts := ⟨by decide, by decide⟩

/-- An extended real whose absolute value compares less than infinity is a real number. -/
theorem finite_of_cmp {x : EReal}
    (h : FloatOps.cmpf (F := Ideal) (φ := .f32) .olt (max x (-x)) (Ideal.ofBits .f32 0x7F800000#32) = 1#1) : x ≠ ⊥ ∧ x ≠ ⊤ := by
  rw [Ideal.cmpf_def, Cert.KernelIdeal.Value.ofBits_inf] at h
  have hlt : max x (-x) < ⊤ := by
    by_contra hn
    rw [show Ideal.cmp .olt (max x (-x)) ⊤ = 0#1 by simp only [Ideal.cmp]; rw [decide_eq_false hn]; rfl] at h
    exact absurd h (by decide)
  exact ⟨fun e => absurd hlt (by simp [e]), fun e => absurd hlt (by simp [e])⟩

/-- An element where the precondition's function is one is a real number. -/
theorem finite_of_pre [Cert.Pre_x_finite.Facts] {X : FVec Ideal Cert.Pre_x_finite.S8x256x32x32 .f32}
    {K : FVec Ideal Cert.Pre_x_finite.S1024x256 .f32} {V : FVec Ideal Cert.Pre_x_finite.S256x256 .f32}
    {i : Cert.Pre_x_finite.S8x256x32x32.Idx} (h : Cert.Pre_x_finite.fn (F := Ideal) X K V i = 1#1) : X i ≠ ⊥ ∧ X i ≠ ⊤ :=
  finite_of_cmp h

/-- An element where the mask of the first result is one is a real number. -/
theorem finite_of_on [Cert.On_where_x_finite.Facts] {X : FVec Ideal Cert.On_where_x_finite.S8x256x32x32 .f32}
    {K : FVec Ideal Cert.On_where_x_finite.S1024x256 .f32} {V : FVec Ideal Cert.On_where_x_finite.S256x256 .f32}
    {i : Cert.On_where_x_finite.S8x256x32x32.Idx} (h : (Cert.On_where_x_finite.fn (F := Ideal) X K V).1 i = 1#1) : X i ≠ ⊥ ∧ X i ≠ ⊤ :=
  finite_of_cmp h

/-- The reference runs to its end from any memory, its arguments unchanged and every counter zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      fun r => (∀ c : Dev Cert.ReferenceIdeal.nD,
        r.2.mem ((c : Thread Cert.ReferenceIdeal.nD Cert.ReferenceIdeal.τ).loc Cert.ReferenceIdeal.main_arg0) = m ((c : Thread Cert.ReferenceIdeal.nD Cert.ReferenceIdeal.τ).loc Cert.ReferenceIdeal.main_arg0)
        ∧ r.2.mem ((c : Thread Cert.ReferenceIdeal.nD Cert.ReferenceIdeal.τ).loc Cert.ReferenceIdeal.main_arg1) = m ((c : Thread Cert.ReferenceIdeal.nD Cert.ReferenceIdeal.τ).loc Cert.ReferenceIdeal.main_arg1)
        ∧ r.2.mem ((c : Thread Cert.ReferenceIdeal.nD Cert.ReferenceIdeal.τ).loc Cert.ReferenceIdeal.main_arg2) = m ((c : Thread Cert.ReferenceIdeal.nD Cert.ReferenceIdeal.τ).loc Cert.ReferenceIdeal.main_arg2))
        ∧ r.2.sem = fun _ => 0 :=
  (θ_run _ _ _).mono (fun r h => ⟨fun c => (h c).2.2.2.2, sem_eq_zero_of_no_sems (by decide) r.2⟩)
    (Cert.ReferenceIdeal.Value.run m g)

/-- Every claim: the kernel as compiled and at the extended reals runs to its end with its arguments unchanged, so does the
    reference, and from equal arguments the two end in equal results, the first of them where the images are real. -/
theorem claim : Cert.Claim := by
  refine ⟨Cert.Kernel.Gen.facts, Cert.KernelIdeal.Gen.facts, Cert.ReferenceIdeal.Gen.facts, preFacts, onFacts,
    fun m g _ => Cert.Kernel.Gen.frame m g, fun m g _ => Cert.KernelIdeal.Gen.frame m g, fun m g _ => Cert.KernelIdeal.Gen.frame m g,
    fun m g _ => reference_frame m g, fun m g _ => reference_frame m g, trivial, ?_, ?_⟩
  · intro m g m' g' hpre hargs
    refine ⟨fun c => quantOut (Cert.KernelIdeal.Value.argX m c) (Cert.KernelIdeal.Value.argK m c) (Cert.KernelIdeal.Value.argV m c),
      fun c => quantOut (Cert.KernelIdeal.Value.argX m c) (Cert.KernelIdeal.Value.argK m c) (Cert.KernelIdeal.Value.argV m c),
      fun c => codeOut (Cert.KernelIdeal.Value.argX m c) (Cert.KernelIdeal.Value.argK m c),
      fun c _ => loss (Cert.KernelIdeal.Value.argX m c) (Cert.KernelIdeal.Value.argK m c) (Cert.KernelIdeal.Value.argV m c),
      Cert.KernelIdeal.Value.run m g, ?_⟩
    refine (θ_run _ _ _).mono (fun r h c => ?_) (Cert.ReferenceIdeal.Value.run_values m' g')
    have hX : Cert.ReferenceIdeal.Value.argX m' c = Cert.KernelIdeal.Value.argX m c := (hargs c).1
    have hK : Cert.ReferenceIdeal.Value.argK m' c = Cert.KernelIdeal.Value.argK m c := (hargs c).2.1
    have hV : Cert.ReferenceIdeal.Value.argV m' c = Cert.KernelIdeal.Value.argV m c := (hargs c).2.2
    have hc := h c
    rw [hX, hK, hV] at hc
    refine ⟨funext fun i => ?_, hc.2⟩
    have hf := finite_of_pre (congrFun (hpre c) i)
    exact hc.1 i hf.1 hf.2
  · intro m g m' g' _ hargs
    refine ⟨fun c => quantOut (Cert.KernelIdeal.Value.argX m c) (Cert.KernelIdeal.Value.argK m c) (Cert.KernelIdeal.Value.argV m c),
      fun c => quantOut (Cert.KernelIdeal.Value.argX m c) (Cert.KernelIdeal.Value.argK m c) (Cert.KernelIdeal.Value.argV m c),
      fun c => codeOut (Cert.KernelIdeal.Value.argX m c) (Cert.KernelIdeal.Value.argK m c),
      fun c _ => loss (Cert.KernelIdeal.Value.argX m c) (Cert.KernelIdeal.Value.argK m c) (Cert.KernelIdeal.Value.argV m c), ?_, ?_⟩
    · refine (θ_run _ _ _).mono (fun r h c => ?_) (Cert.KernelIdeal.Value.run m g)
      exact ⟨fun i _ => congrFun (h c).1 i, fun i _ => congrFun (h c).2.1 i, fun i _ => congrFun (h c).2.2.1 i,
        fun i _ => congrFun (h c).2.2.2.1 i, (h c).2.2.2.2⟩
    · refine (θ_run _ _ _).mono (fun r h c => ?_) (Cert.ReferenceIdeal.Value.run_values m' g')
      have hX : Cert.ReferenceIdeal.Value.argX m' c = Cert.KernelIdeal.Value.argX m c := (hargs c).1
      have hK : Cert.ReferenceIdeal.Value.argK m' c = Cert.KernelIdeal.Value.argK m c := (hargs c).2.1
      have hV : Cert.ReferenceIdeal.Value.argV m' c = Cert.KernelIdeal.Value.argV m c := (hargs c).2.2
      have hc := h c
      rw [hX, hK, hV] at hc
      exact ⟨fun i hi => hc.1 i (finite_of_on hi).1 (finite_of_on hi).2, fun i _ => congrFun hc.2.1 i, fun i _ => congrFun hc.2.2.1 i,
        fun i _ => congrFun hc.2.2.2.1 i, hc.2.2.2.2⟩

end Cert.Proof

end
